-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x128 : Shape := ⟨3, ![4, 512, 128]⟩
abbrev S4 : Shape := ⟨1, ![4]⟩
abbrev S4x512x4x128 : Shape := ⟨4, ![4, 512, 4, 128]⟩
abbrev S512x512 : Shape := ⟨2, ![512, 512]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x4x128 : Shape := ⟨3, ![512, 4, 128]⟩
abbrev S1x512x4x128 : Shape := ⟨4, ![1, 512, 4, 128]⟩
abbrev S1x512x1 : Shape := ⟨3, ![1, 512, 1]⟩
abbrev S1 : Shape := ⟨1, ![1]⟩
abbrev S1x1x1 : Shape := ⟨3, ![1, 1, 1]⟩
abbrev S4x128 : Shape := ⟨2, ![4, 128]⟩
abbrev S1x1x4x128 : Shape := ⟨4, ![1, 1, 4, 128]⟩
abbrev S1x4x128 : Shape := ⟨3, ![1, 4, 128]⟩

abbrev nBuf : Space → Nat
  | .hbm => 3
  | .vmem => 2
  | .smem => 1
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4, .f32⟩
  | .local _ .vmem, ⟨0, _⟩ => ⟨S4x512x128, .f32⟩
  | .local _ .vmem, ⟨1, _⟩ => ⟨S4x512x4x128, .f32⟩
  | .local _ .smem, ⟨0, _⟩ => ⟨S4, .f32⟩
  | _, _ => ⟨S4x512x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c511_i32 : BitVec 32 := 511#32
  let v263 : BitVec 32 := Scalar.addi c0_i32 c511_i32
  let c1_i32 : BitVec 32 := 1#32
  ⟨c0_i32, v263, c1_i32⟩
def k0_off1 (v288 : BitVec 32) : Fin 4 → Nat :=
  let c0_126 : Index := 0#32
  let c511_i32_125 : BitVec 32 := 511#32
  let v289 : BitVec 32 := Scalar.andi v288 c511_i32_125
  let v290 : Index := Scalar.indexCast v289
  let c0_127 : Index := 0#32
  let c0_128 : Index := 0#32
  ![0, v290.toNat, 0, 0]

def k0_chk1 (v288 : BitVec 32) : Prop :=
  (∀ a, (k0_off1 v288) a + S1x1x4x128.size a ≤ S4x512x4x128.size a)
theorem k0_off1_inb : ∀ (v288 : BitVec 32) (k0_hw1 : k0_chk1 v288), ∀ a, (k0_off1 v288) a + S1x1x4x128.size a ≤ S4x512x4x128.size a := fun v288 k0_hw1 => k0_hw1

def k0_off2 (v312 : BitVec 32) : Fin 4 → Nat :=
  let c1_133 : Index := 1#32
  let c511_i32_132 : BitVec 32 := 511#32
  let v313 : BitVec 32 := Scalar.andi v312 c511_i32_132
  let v314 : Index := Scalar.indexCast v313
  let c0_134 : Index := 0#32
  let c0_135 : Index := 0#32
  ![1, v314.toNat, 0, 0]

def k0_chk2 (v312 : BitVec 32) : Prop :=
  (∀ a, (k0_off2 v312) a + S1x1x4x128.size a ≤ S4x512x4x128.size a)
theorem k0_off2_inb : ∀ (v312 : BitVec 32) (k0_hw2 : k0_chk2 v312), ∀ a, (k0_off2 v312) a + S1x1x4x128.size a ≤ S4x512x4x128.size a := fun v312 k0_hw2 => k0_hw2

def k0_off3 (v336 : BitVec 32) : Fin 4 → Nat :=
  let c2_140 : Index := 2#32
  let c511_i32_139 : BitVec 32 := 511#32
  let v337 : BitVec 32 := Scalar.andi v336 c511_i32_139
  let v338 : Index := Scalar.indexCast v337
  let c0_141 : Index := 0#32
  let c0_142 : Index := 0#32
  ![2, v338.toNat, 0, 0]

def k0_chk3 (v336 : BitVec 32) : Prop :=
  (∀ a, (k0_off3 v336) a + S1x1x4x128.size a ≤ S4x512x4x128.size a)
theorem k0_off3_inb : ∀ (v336 : BitVec 32) (k0_hw3 : k0_chk3 v336), ∀ a, (k0_off3 v336) a + S1x1x4x128.size a ≤ S4x512x4x128.size a := fun v336 k0_hw3 => k0_hw3

def k0_off4 (v360 : BitVec 32) : Fin 4 → Nat :=
  let c3_147 : Index := 3#32
  let c511_i32_146 : BitVec 32 := 511#32
  let v361 : BitVec 32 := Scalar.andi v360 c511_i32_146
  let v362 : Index := Scalar.indexCast v361
  let c0_148 : Index := 0#32
  let c0_149 : Index := 0#32
  ![3, v362.toNat, 0, 0]

def k0_chk4 (v360 : BitVec 32) : Prop :=
  (∀ a, (k0_off4 v360) a + S1x1x4x128.size a ≤ S4x512x4x128.size a)
theorem k0_off4_inb : ∀ (v360 : BitVec 32) (k0_hw4 : k0_chk4 v360), ∀ a, (k0_off4 v360) a + S1x1x4x128.size a ≤ S4x512x4x128.size a := fun v360 k0_hw4 => k0_hw4

abbrev stage0_0 : Fin 1 → Memref sig .tc .vmem S4x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x128 : Shape := ⟨3, ![4, 512, 128]⟩
abbrev S_ : Shape := ⟨0, ![]⟩
abbrev S4x128 : Shape := ⟨2, ![4, 128]⟩
abbrev S4x1x128 : Shape := ⟨3, ![4, 1, 128]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4x128x512 : Shape := ⟨3, ![4, 128, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S511 : Shape := ⟨1, ![511]⟩
abbrev S4x511 : Shape := ⟨2, ![4, 511]⟩
abbrev S4 : Shape := ⟨1, ![4]⟩
abbrev S4x1 : Shape := ⟨2, ![4, 1]⟩
abbrev S4x1x1 : Shape := ⟨3, ![4, 1, 1]⟩
abbrev S4x256x1 : Shape := ⟨3, ![4, 256, 1]⟩
abbrev S4x256 : Shape := ⟨2, ![4, 256]⟩
abbrev S2 : Shape := ⟨1, ![2]⟩
abbrev S2x1 : Shape := ⟨2, ![2, 1]⟩
abbrev S4x2x512 : Shape := ⟨3, ![4, 2, 512]⟩

abbrev nBuf : Space → Nat
  | .hbm => 305
  | .vmem => 0
  | .smem => 0
  | _ => 0

abbrev hbmTy0_0 (i : Nat) : BufTy := match i % 128 with
  | 0 => ⟨S4x512x128, .f32⟩
  | 1 => ⟨S4x512x128, .f32⟩
  | 2 => ⟨S4x512x128, .f32⟩
  | 3 => ⟨S_, .f32⟩
  | 4 => ⟨S4x128, .f32⟩
  | 5 => ⟨S4x1x128, .f32⟩
  | 6 => ⟨S4x1x128, .f32⟩
  | 7 => ⟨S_, .f32⟩
  | 8 => ⟨S4x1x128, .f32⟩
  | 9 => ⟨S4x1x128, .f32⟩
  | 10 => ⟨S4x512x128, .f32⟩
  | 11 => ⟨S4x512x128, .f32⟩
  | 12 => ⟨S4x512x128, .f32⟩
  | 13 => ⟨S_, .f32⟩
  | 14 => ⟨S4x512, .f32⟩
  | 15 => ⟨S4x512x1, .f32⟩
  | 16 => ⟨S4x1x512, .f32⟩
  | 17 => ⟨S4x512x512, .f32⟩
  | 18 => ⟨S4x512x512, .f32⟩
  | 19 => ⟨S4x512x512, .f32⟩
  | 20 => ⟨S4x128x512, .f32⟩
  | 21 => ⟨S4x512x512, .f32⟩
  | 22 => ⟨S_, .f32⟩
  | 23 => ⟨S4x512x512, .f32⟩
  | 24 => ⟨S4x512x512, .f32⟩
  | 25 => ⟨S4x512x512, .f32⟩
  | 26 => ⟨S_, .f32⟩
  | 27 => ⟨S4x512x512, .f32⟩
  | 28 => ⟨S4x512x512, .f32⟩
  | 29 => ⟨S_, .f32⟩
  | 30 => ⟨S4x512x512, .f32⟩
  | 31 => ⟨S4x512x512, .f32⟩
  | 32 => ⟨S4x512x512, .f32⟩
  | 33 => ⟨S512, .i32⟩
  | 34 => ⟨S512x1, .i32⟩
  | 35 => ⟨S1x512, .i32⟩
  | 36 => ⟨S512x512, .i32⟩
  | 37 => ⟨S512x512, .i32⟩
  | 38 => ⟨S512x512, .i1⟩
  | 39 => ⟨S_, .f32⟩
  | 40 => ⟨S_, .f32⟩
  | 41 => ⟨S4x512x512, .i1⟩
  | 42 => ⟨S4x512x512, .f32⟩
  | 43 => ⟨S4x512x512, .f32⟩
  | 44 => ⟨S512, .i32⟩
  | 45 => ⟨S_, .i32⟩
  | 46 => ⟨S512, .i32⟩
  | 47 => ⟨S512, .i1⟩
  | 48 => ⟨S4x1x512, .f32⟩
  | 49 => ⟨S4x512, .f32⟩
  | 50 => ⟨S_, .f32⟩
  | 51 => ⟨S_, .f32⟩
  | 52 => ⟨S4x512, .i1⟩
  | 53 => ⟨S4x512, .f32⟩
  | 54 => ⟨S4x512, .f32⟩
  | 55 => ⟨S511, .i32⟩
  | 56 => ⟨S_, .f32⟩
  | 57 => ⟨S4x511, .f32⟩
  | 58 => ⟨S_, .i32⟩
  | 59 => ⟨S_, .i32⟩
  | 60 => ⟨S512, .i32⟩
  | 61 => ⟨S4x512x512, .f32⟩
  | 62 => ⟨S511, .i32⟩
  | 63 => ⟨S_, .i32⟩
  | 64 => ⟨S_, .i32⟩
  | 65 => ⟨S4x512, .f32⟩
  | 66 => ⟨S4x511, .f32⟩
  | 67 => ⟨S_, .i32⟩
  | 68 => ⟨S_, .i1⟩
  | 69 => ⟨S_, .i32⟩
  | 70 => ⟨S_, .i32⟩
  | 71 => ⟨S_, .f32⟩
  | 72 => ⟨S4, .f32⟩
  | 73 => ⟨S4x1, .f32⟩
  | 74 => ⟨S4x512, .f32⟩
  | 75 => ⟨S4x512, .i1⟩
  | 76 => ⟨S_, .i32⟩
  | 77 => ⟨S_, .i32⟩
  | 78 => ⟨S4x512, .i32⟩
  | 79 => ⟨S4x512, .i32⟩
  | 80 => ⟨S4x512, .i32⟩
  | 81 => ⟨S_, .i32⟩
  | 82 => ⟨S4, .i32⟩
  | 83 => ⟨S4x1, .i32⟩
  | 84 => ⟨S_, .i32⟩
  | 85 => ⟨S4x1, .i32⟩
  | 86 => ⟨S4x1, .i1⟩
  | 87 => ⟨S_, .i32⟩
  | 88 => ⟨S4x1, .i32⟩
  | 89 => ⟨S4x1, .i32⟩
  | 90 => ⟨S4x1, .i32⟩
  | 91 => ⟨S4x1x1, .i32⟩
  | 92 => ⟨S4x1, .f32⟩
  | 93 => ⟨S4, .f32⟩
  | 94 => ⟨S4x1x1, .i32⟩
  | 95 => ⟨S_, .i32⟩
  | 96 => ⟨S4x1x1, .i32⟩
  | 97 => ⟨S4x1x1, .i1⟩
  | 98 => ⟨S_, .i32⟩
  | 99 => ⟨S4x1x1, .i32⟩
  | 100 => ⟨S4x1x1, .i32⟩
  | 101 => ⟨S4x1x1, .i32⟩
  | 102 => ⟨S4x1x512, .f32⟩
  | 103 => ⟨S4x512, .f32⟩
  | 104 => ⟨S4x512, .f32⟩
  | 105 => ⟨S4x1, .i32⟩
  | 106 => ⟨S1x512, .i32⟩
  | 107 => ⟨S4x512, .i32⟩
  | 108 => ⟨S4x512, .i32⟩
  | 109 => ⟨S4x512, .i1⟩
  | 110 => ⟨S_, .f32⟩
  | 111 => ⟨S_, .f32⟩
  | 112 => ⟨S4x512, .f32⟩
  | 113 => ⟨S4x512, .f32⟩
  | 114 => ⟨S_, .i32⟩
  | 115 => ⟨S511, .i32⟩
  | 116 => ⟨S511, .i1⟩
  | 117 => ⟨S4x1, .f32⟩
  | 118 => ⟨S4x511, .i1⟩
  | 119 => ⟨S4x511, .f32⟩
  | 120 => ⟨S4x511, .f32⟩
  | 121 => ⟨S_, .i32⟩
  | 122 => ⟨S_, .i32⟩
  | 123 => ⟨S4x511, .f32⟩
  | 124 => ⟨S4x512x128, .f32⟩
  | 125 => ⟨S_, .f32⟩
  | 126 => ⟨S4x128, .f32⟩
  | 127 => ⟨S4x1x128, .f32⟩
  | _ => ⟨S4x512x128, .f32⟩

abbrev hbmTy0_1 (i : Nat) : BufTy := match i % 128 with
  | 0 => ⟨S4x1x128, .f32⟩
  | 1 => ⟨S_, .f32⟩
  | 2 => ⟨S4x1x128, .f32⟩
  | 3 => ⟨S4x1x128, .f32⟩
  | 4 => ⟨S4x512x128, .f32⟩
  | 5 => ⟨S4x512x128, .f32⟩
  | 6 => ⟨S4x512x128, .f32⟩
  | 7 => ⟨S_, .f32⟩
  | 8 => ⟨S4x512, .f32⟩
  | 9 => ⟨S4x512x1, .f32⟩
  | 10 => ⟨S4x1x512, .f32⟩
  | 11 => ⟨S4x512x512, .f32⟩
  | 12 => ⟨S4x512x512, .f32⟩
  | 13 => ⟨S4x512x512, .f32⟩
  | 14 => ⟨S4x128x512, .f32⟩
  | 15 => ⟨S4x512x512, .f32⟩
  | 16 => ⟨S_, .f32⟩
  | 17 => ⟨S4x512x512, .f32⟩
  | 18 => ⟨S4x512x512, .f32⟩
  | 19 => ⟨S4x512x512, .f32⟩
  | 20 => ⟨S_, .f32⟩
  | 21 => ⟨S4x512x512, .f32⟩
  | 22 => ⟨S4x512x512, .f32⟩
  | 23 => ⟨S_, .f32⟩
  | 24 => ⟨S4x512x512, .f32⟩
  | 25 => ⟨S4x512x512, .f32⟩
  | 26 => ⟨S4x512x512, .f32⟩
  | 27 => ⟨S512, .i32⟩
  | 28 => ⟨S512x1, .i32⟩
  | 29 => ⟨S1x512, .i32⟩
  | 30 => ⟨S512x512, .i32⟩
  | 31 => ⟨S512x512, .i32⟩
  | 32 => ⟨S512x512, .i1⟩
  | 33 => ⟨S_, .f32⟩
  | 34 => ⟨S_, .f32⟩
  | 35 => ⟨S4x512x512, .i1⟩
  | 36 => ⟨S4x512x512, .f32⟩
  | 37 => ⟨S4x512x512, .f32⟩
  | 38 => ⟨S4x512x512, .f32⟩
  | 39 => ⟨S4x512x128, .f32⟩
  | 40 => ⟨S_, .f32⟩
  | 41 => ⟨S4x128, .f32⟩
  | 42 => ⟨S4x1x128, .f32⟩
  | 43 => ⟨S4x1x128, .f32⟩
  | 44 => ⟨S_, .f32⟩
  | 45 => ⟨S4x1x128, .f32⟩
  | 46 => ⟨S4x1x128, .f32⟩
  | 47 => ⟨S4x512x128, .f32⟩
  | 48 => ⟨S4x512x128, .f32⟩
  | 49 => ⟨S4x512x128, .f32⟩
  | 50 => ⟨S_, .f32⟩
  | 51 => ⟨S4x512, .f32⟩
  | 52 => ⟨S4x512x1, .f32⟩
  | 53 => ⟨S4x1x512, .f32⟩
  | 54 => ⟨S4x512x512, .f32⟩
  | 55 => ⟨S4x512x512, .f32⟩
  | 56 => ⟨S4x512x512, .f32⟩
  | 57 => ⟨S4x128x512, .f32⟩
  | 58 => ⟨S4x512x512, .f32⟩
  | 59 => ⟨S_, .f32⟩
  | 60 => ⟨S4x512x512, .f32⟩
  | 61 => ⟨S4x512x512, .f32⟩
  | 62 => ⟨S4x512x512, .f32⟩
  | 63 => ⟨S_, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S4x512x512, .f32⟩
  | 70 => ⟨S512, .i32⟩
  | 71 => ⟨S512x1, .i32⟩
  | 72 => ⟨S1x512, .i32⟩
  | 73 => ⟨S512x512, .i32⟩
  | 74 => ⟨S512x512, .i32⟩
  | 75 => ⟨S512x512, .i1⟩
  | 76 => ⟨S_, .f32⟩
  | 77 => ⟨S_, .f32⟩
  | 78 => ⟨S4x512x512, .i1⟩
  | 79 => ⟨S4x512x512, .f32⟩
  | 80 => ⟨S4x512x512, .f32⟩
  | 81 => ⟨S4x512x512, .f32⟩
  | 82 => ⟨S4x256x1, .f32⟩
  | 83 => ⟨S4x256, .f32⟩
  | 84 => ⟨S2, .i32⟩
  | 85 => ⟨S2x1, .i32⟩
  | 86 => ⟨S_, .i32⟩
  | 87 => ⟨S2x1, .i32⟩
  | 88 => ⟨S2x1, .i1⟩
  | 89 => ⟨S_, .f32⟩
  | 90 => ⟨S_, .f32⟩
  | 91 => ⟨S4x512, .f32⟩
  | 92 => ⟨S4x1x512, .f32⟩
  | 93 => ⟨S_, .f32⟩
  | 94 => ⟨S_, .f32⟩
  | 95 => ⟨S4x512, .f32⟩
  | 96 => ⟨S4x1x512, .f32⟩
  | 97 => ⟨S4x2x512, .i1⟩
  | 98 => ⟨S4x2x512, .f32⟩
  | 99 => ⟨S4x2x512, .f32⟩
  | 100 => ⟨S4x2x512, .f32⟩
  | 101 => ⟨S_, .f32⟩
  | 102 => ⟨S4x511, .f32⟩
  | 103 => ⟨S4x256x1, .f32⟩
  | 104 => ⟨S4x256, .f32⟩
  | 105 => ⟨S2, .i32⟩
  | 106 => ⟨S2x1, .i32⟩
  | 107 => ⟨S_, .i32⟩
  | 108 => ⟨S2x1, .i32⟩
  | 109 => ⟨S2x1, .i1⟩
  | 110 => ⟨S_, .f32⟩
  | 111 => ⟨S_, .f32⟩
  | 112 => ⟨S4x512, .f32⟩
  | 113 => ⟨S4x1x512, .f32⟩
  | 114 => ⟨S_, .f32⟩
  | 115 => ⟨S_, .f32⟩
  | 116 => ⟨S4x512, .f32⟩
  | 117 => ⟨S4x1x512, .f32⟩
  | 118 => ⟨S4x2x512, .i1⟩
  | 119 => ⟨S4x2x512, .f32⟩
  | 120 => ⟨S4x2x512, .f32⟩
  | 121 => ⟨S4x2x512, .f32⟩
  | 122 => ⟨S_, .f32⟩
  | 123 => ⟨S4x511, .f32⟩
  | 124 => ⟨S4x256x1, .f32⟩
  | 125 => ⟨S4x256, .f32⟩
  | 126 => ⟨S2, .i32⟩
  | 127 => ⟨S2x1, .i32⟩
  | _ => ⟨S4x512x128, .f32⟩

abbrev hbmTy0_2 (i : Nat) : BufTy := match i % 128 with
  | 0 => ⟨S_, .i32⟩
  | 1 => ⟨S2x1, .i32⟩
  | 2 => ⟨S2x1, .i1⟩
  | 3 => ⟨S_, .f32⟩
  | 4 => ⟨S_, .f32⟩
  | 5 => ⟨S4x512, .f32⟩
  | 6 => ⟨S4x1x512, .f32⟩
  | 7 => ⟨S_, .f32⟩
  | 8 => ⟨S_, .f32⟩
  | 9 => ⟨S4x512, .f32⟩
  | 10 => ⟨S4x1x512, .f32⟩
  | 11 => ⟨S4x2x512, .i1⟩
  | 12 => ⟨S4x2x512, .f32⟩
  | 13 => ⟨S4x2x512, .f32⟩
  | 14 => ⟨S4x2x512, .f32⟩
  | 15 => ⟨S4x2x512, .f32⟩
  | 16 => ⟨S_, .f32⟩
  | 17 => ⟨S4x2x512, .f32⟩
  | 18 => ⟨S4x2x512, .i1⟩
  | 19 => ⟨S_, .f32⟩
  | 20 => ⟨S4x2x512, .f32⟩
  | 21 => ⟨S4x2x512, .f32⟩
  | 22 => ⟨S_, .f32⟩
  | 23 => ⟨S4x2x512, .f32⟩
  | 24 => ⟨S4x2x512, .f32⟩
  | 25 => ⟨S_, .f32⟩
  | 26 => ⟨S4x2x512, .f32⟩
  | 27 => ⟨S4x2x512, .f32⟩
  | 28 => ⟨S_, .f32⟩
  | 29 => ⟨S4x2x512, .f32⟩
  | 30 => ⟨S4x2x512, .f32⟩
  | 31 => ⟨S4x2x512, .f32⟩
  | 32 => ⟨S4x2x512, .f32⟩
  | 33 => ⟨S_, .f32⟩
  | 34 => ⟨S4x2x512, .f32⟩
  | 35 => ⟨S4x2x512, .f32⟩
  | 36 => ⟨S_, .f32⟩
  | 37 => ⟨S_, .f32⟩
  | 38 => ⟨S4x2x512, .f32⟩
  | 39 => ⟨S4x2x512, .f32⟩
  | 40 => ⟨S_, .f32⟩
  | 41 => ⟨S4, .f32⟩
  | 42 => ⟨S_, .f32⟩
  | 43 => ⟨S_, .f32⟩
  | 44 => ⟨S4x2x512, .f32⟩
  | 45 => ⟨S4x2x512, .f32⟩
  | 46 => ⟨S_, .f32⟩
  | 47 => ⟨S4, .f32⟩
  | 48 => ⟨S4, .f32⟩
  | _ => ⟨S4x512x128, .f32⟩

abbrev hbmTy (i : Nat) : BufTy := match i / 128 with
  | 0 => hbmTy0_0 i
  | 1 => hbmTy0_1 i
  | 2 => hbmTy0_2 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_c_8 : Ref sig .tc := ⟨.hbm, 58, rfl⟩
abbrev main_c_9 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev main_v40_3 : Ref sig .tc := ⟨.hbm, 63, rfl⟩
abbrev main_v40_4 : Ref sig .tc := ⟨.hbm, 64, rfl⟩
abbrev main_v40_5 : Ref sig .tc := ⟨.hbm, 65, rfl⟩
abbrev main_v40_6 : Ref sig .tc := ⟨.hbm, 66, rfl⟩
abbrev main_while0c_c_51 : Ref sig .tc := ⟨.hbm, 67, rfl⟩
abbrev main_while0c_v163 : Ref sig .tc := ⟨.hbm, 68, rfl⟩
abbrev main_while0b_c_51 : Ref sig .tc := ⟨.hbm, 69, rfl⟩
abbrev main_while0b_v163 : Ref sig .tc := ⟨.hbm, 70, rfl⟩
abbrev main_while0b_cst_52 : Ref sig .tc := ⟨.hbm, 71, rfl⟩
abbrev main_while0b_v164 : Ref sig .tc := ⟨.hbm, 72, rfl⟩
abbrev main_while0b_v165 : Ref sig .tc := ⟨.hbm, 73, rfl⟩
abbrev main_while0b_v166 : Ref sig .tc := ⟨.hbm, 74, rfl⟩
abbrev main_while0b_v167 : Ref sig .tc := ⟨.hbm, 75, rfl⟩
abbrev main_while0b_c_53 : Ref sig .tc := ⟨.hbm, 76, rfl⟩
abbrev main_while0b_call2_v0 : Ref sig .tc := ⟨.hbm, 77, rfl⟩
abbrev main_while0b_call2_v1 : Ref sig .tc := ⟨.hbm, 78, rfl⟩
abbrev main_while0b_call2_v2 : Ref sig .tc := ⟨.hbm, 79, rfl⟩
abbrev main_while0b_v168 : Ref sig .tc := ⟨.hbm, 80, rfl⟩
abbrev main_while0b_c_54 : Ref sig .tc := ⟨.hbm, 81, rfl⟩
abbrev main_while0b_v169 : Ref sig .tc := ⟨.hbm, 82, rfl⟩
abbrev main_while0b_v170 : Ref sig .tc := ⟨.hbm, 83, rfl⟩
abbrev main_while0b_call3_c : Ref sig .tc := ⟨.hbm, 84, rfl⟩
abbrev main_while0b_call3_v0 : Ref sig .tc := ⟨.hbm, 85, rfl⟩
abbrev main_while0b_call3_v1 : Ref sig .tc := ⟨.hbm, 86, rfl⟩
abbrev main_while0b_call3_c_0 : Ref sig .tc := ⟨.hbm, 87, rfl⟩
abbrev main_while0b_call3_v2 : Ref sig .tc := ⟨.hbm, 88, rfl⟩
abbrev main_while0b_call3_v3 : Ref sig .tc := ⟨.hbm, 89, rfl⟩
abbrev main_while0b_call3_v4 : Ref sig .tc := ⟨.hbm, 90, rfl⟩
abbrev main_while0b_call3_v5 : Ref sig .tc := ⟨.hbm, 91, rfl⟩
abbrev main_while0b_v171 : Ref sig .tc := ⟨.hbm, 92, rfl⟩
abbrev main_while0b_v172 : Ref sig .tc := ⟨.hbm, 93, rfl⟩
abbrev main_while0b_v173 : Ref sig .tc := ⟨.hbm, 94, rfl⟩
abbrev main_while0b_call4_c : Ref sig .tc := ⟨.hbm, 95, rfl⟩
abbrev main_while0b_call4_v0 : Ref sig .tc := ⟨.hbm, 96, rfl⟩
abbrev main_while0b_call4_v1 : Ref sig .tc := ⟨.hbm, 97, rfl⟩
abbrev main_while0b_call4_c_0 : Ref sig .tc := ⟨.hbm, 98, rfl⟩
abbrev main_while0b_call4_v2 : Ref sig .tc := ⟨.hbm, 99, rfl⟩
abbrev main_while0b_call4_v3 : Ref sig .tc := ⟨.hbm, 100, rfl⟩
abbrev main_while0b_call4_v4 : Ref sig .tc := ⟨.hbm, 101, rfl⟩
abbrev main_while0b_v174 : Ref sig .tc := ⟨.hbm, 102, rfl⟩
abbrev main_while0b_v175 : Ref sig .tc := ⟨.hbm, 103, rfl⟩
abbrev main_while0b_v176 : Ref sig .tc := ⟨.hbm, 104, rfl⟩
abbrev main_while0b_v177 : Ref sig .tc := ⟨.hbm, 105, rfl⟩
abbrev main_while0b_v178 : Ref sig .tc := ⟨.hbm, 106, rfl⟩
abbrev main_while0b_v179 : Ref sig .tc := ⟨.hbm, 107, rfl⟩
abbrev main_while0b_v180 : Ref sig .tc := ⟨.hbm, 108, rfl⟩
abbrev main_while0b_v181 : Ref sig .tc := ⟨.hbm, 109, rfl⟩
abbrev main_while0b_cst_55 : Ref sig .tc := ⟨.hbm, 110, rfl⟩
abbrev main_while0b_call5_v0 : Ref sig .tc := ⟨.hbm, 111, rfl⟩
abbrev main_while0b_call5_v1 : Ref sig .tc := ⟨.hbm, 112, rfl⟩
abbrev main_while0b_v182 : Ref sig .tc := ⟨.hbm, 113, rfl⟩
abbrev main_while0b_v183 : Ref sig .tc := ⟨.hbm, 114, rfl⟩
abbrev main_while0b_v184 : Ref sig .tc := ⟨.hbm, 115, rfl⟩
abbrev main_while0b_v185 : Ref sig .tc := ⟨.hbm, 116, rfl⟩
abbrev main_while0b_v186 : Ref sig .tc := ⟨.hbm, 117, rfl⟩
abbrev main_while0b_call6_v0 : Ref sig .tc := ⟨.hbm, 118, rfl⟩
abbrev main_while0b_call6_v1 : Ref sig .tc := ⟨.hbm, 119, rfl⟩
abbrev main_while0b_v187 : Ref sig .tc := ⟨.hbm, 120, rfl⟩
abbrev main_while0b_c_56 : Ref sig .tc := ⟨.hbm, 121, rfl⟩
abbrev main_while0b_v188 : Ref sig .tc := ⟨.hbm, 122, rfl⟩
abbrev main_v41 : Ref sig .tc := ⟨.hbm, 123, rfl⟩
abbrev main_v42 : Ref sig .tc := ⟨.hbm, 124, rfl⟩
abbrev main_cst_10 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_11 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_12 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_cst_13 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_cst_14 : Ref sig .tc := ⟨.hbm, 148, rfl⟩
abbrev main_v62 : Ref sig .tc := ⟨.hbm, 149, rfl⟩
abbrev main_v63 : Ref sig .tc := ⟨.hbm, 150, rfl⟩
abbrev main_cst_15 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_16 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_cst_17 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_cst_18 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_cst_19 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_cst_20 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_cst_21 : Ref sig .tc := ⟨.hbm, 191, rfl⟩
abbrev main_v95 : Ref sig .tc := ⟨.hbm, 192, rfl⟩
abbrev main_v96 : Ref sig .tc := ⟨.hbm, 193, rfl⟩
abbrev main_cst_22 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_cst_23 : Ref sig .tc := ⟨.hbm, 204, rfl⟩
abbrev main_call10_v0 : Ref sig .tc := ⟨.hbm, 205, rfl⟩
abbrev main_call10_v1 : Ref sig .tc := ⟨.hbm, 206, rfl⟩
abbrev main_call10_v2 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_c_24 : Ref sig .tc := ⟨.hbm, 214, rfl⟩
abbrev main_v112 : Ref sig .tc := ⟨.hbm, 215, rfl⟩
abbrev main_v113 : Ref sig .tc := ⟨.hbm, 216, rfl⟩
abbrev main_cst_25 : Ref sig .tc := ⟨.hbm, 217, rfl⟩
abbrev main_call12_v0 : Ref sig .tc := ⟨.hbm, 218, rfl⟩
abbrev main_v114 : Ref sig .tc := ⟨.hbm, 219, rfl⟩
abbrev main_v115 : Ref sig .tc := ⟨.hbm, 220, rfl⟩
abbrev main_cst_26 : Ref sig .tc := ⟨.hbm, 221, rfl⟩
abbrev main_call13_v0 : Ref sig .tc := ⟨.hbm, 222, rfl⟩
abbrev main_v116 : Ref sig .tc := ⟨.hbm, 223, rfl⟩
abbrev main_v117 : Ref sig .tc := ⟨.hbm, 224, rfl⟩
abbrev main_call14_v0 : Ref sig .tc := ⟨.hbm, 225, rfl⟩
abbrev main_call14_v1 : Ref sig .tc := ⟨.hbm, 226, rfl⟩
abbrev main_call14_v2 : Ref sig .tc := ⟨.hbm, 227, rfl⟩
abbrev main_v118 : Ref sig .tc := ⟨.hbm, 228, rfl⟩
abbrev main_cst_27 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_c_28 : Ref sig .tc := ⟨.hbm, 235, rfl⟩
abbrev main_v124 : Ref sig .tc := ⟨.hbm, 236, rfl⟩
abbrev main_v125 : Ref sig .tc := ⟨.hbm, 237, rfl⟩
abbrev main_cst_29 : Ref sig .tc := ⟨.hbm, 238, rfl⟩
abbrev main_call15_v0 : Ref sig .tc := ⟨.hbm, 239, rfl⟩
abbrev main_v126 : Ref sig .tc := ⟨.hbm, 240, rfl⟩
abbrev main_v127 : Ref sig .tc := ⟨.hbm, 241, rfl⟩
abbrev main_cst_30 : Ref sig .tc := ⟨.hbm, 242, rfl⟩
abbrev main_call16_v0 : Ref sig .tc := ⟨.hbm, 243, rfl⟩
abbrev main_v128 : Ref sig .tc := ⟨.hbm, 244, rfl⟩
abbrev main_v129 : Ref sig .tc := ⟨.hbm, 245, rfl⟩
abbrev main_call17_v0 : Ref sig .tc := ⟨.hbm, 246, rfl⟩
abbrev main_call17_v1 : Ref sig .tc := ⟨.hbm, 247, rfl⟩
abbrev main_call17_v2 : Ref sig .tc := ⟨.hbm, 248, rfl⟩
abbrev main_v130 : Ref sig .tc := ⟨.hbm, 249, rfl⟩
abbrev main_cst_31 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_c_32 : Ref sig .tc := ⟨.hbm, 256, rfl⟩
abbrev main_v136 : Ref sig .tc := ⟨.hbm, 257, rfl⟩
abbrev main_v137 : Ref sig .tc := ⟨.hbm, 258, rfl⟩
abbrev main_cst_33 : Ref sig .tc := ⟨.hbm, 259, rfl⟩
abbrev main_call18_v0 : Ref sig .tc := ⟨.hbm, 260, rfl⟩
abbrev main_v138 : Ref sig .tc := ⟨.hbm, 261, rfl⟩
abbrev main_v139 : Ref sig .tc := ⟨.hbm, 262, rfl⟩
abbrev main_cst_34 : Ref sig .tc := ⟨.hbm, 263, rfl⟩
abbrev main_call19_v0 : Ref sig .tc := ⟨.hbm, 264, rfl⟩
abbrev main_v140 : Ref sig .tc := ⟨.hbm, 265, rfl⟩
abbrev main_v141 : Ref sig .tc := ⟨.hbm, 266, rfl⟩
abbrev main_call20_v0 : Ref sig .tc := ⟨.hbm, 267, rfl⟩
abbrev main_call20_v1 : Ref sig .tc := ⟨.hbm, 268, rfl⟩
abbrev main_call20_v2 : Ref sig .tc := ⟨.hbm, 269, rfl⟩
abbrev main_v142 : Ref sig .tc := ⟨.hbm, 270, rfl⟩
abbrev main_v143 : Ref sig .tc := ⟨.hbm, 271, rfl⟩
abbrev main_cst_35 : Ref sig .tc := ⟨.hbm, 272, rfl⟩
abbrev main_v144 : Ref sig .tc := ⟨.hbm, 273, rfl⟩
abbrev main_v145 : Ref sig .tc := ⟨.hbm, 274, rfl⟩
abbrev main_cst_36 : Ref sig .tc := ⟨.hbm, 275, rfl⟩
abbrev main_v146 : Ref sig .tc := ⟨.hbm, 276, rfl⟩
abbrev main_v147 : Ref sig .tc := ⟨.hbm, 277, rfl⟩
abbrev main_cst_37 : Ref sig .tc := ⟨.hbm, 278, rfl⟩
abbrev main_v148 : Ref sig .tc := ⟨.hbm, 279, rfl⟩
abbrev main_v149 : Ref sig .tc := ⟨.hbm, 280, rfl⟩
abbrev main_cst_38 : Ref sig .tc := ⟨.hbm, 281, rfl⟩
abbrev main_v150 : Ref sig .tc := ⟨.hbm, 282, rfl⟩
abbrev main_v151 : Ref sig .tc := ⟨.hbm, 283, rfl⟩
abbrev main_cst_39 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_cst_40 : Ref sig .tc := ⟨.hbm, 289, rfl⟩
abbrev main_v156 : Ref sig .tc := ⟨.hbm, 290, rfl⟩
abbrev main_v157 : Ref sig .tc := ⟨.hbm, 291, rfl⟩
abbrev main_cst_41 : Ref sig .tc := ⟨.hbm, 292, rfl⟩
abbrev main_call21_v0 : Ref sig .tc := ⟨.hbm, 293, rfl⟩
abbrev main_call21_v1 : Ref sig .tc := ⟨.hbm, 294, rfl⟩
abbrev main_v158 : Ref sig .tc := ⟨.hbm, 295, rfl⟩
abbrev main_cst_42 : Ref sig .tc := ⟨.hbm, 296, rfl⟩
abbrev main_v159 : Ref sig .tc := ⟨.hbm, 297, rfl⟩
abbrev main_cst_43 : Ref sig .tc := ⟨.hbm, 298, rfl⟩
abbrev main_call22_v0 : Ref sig .tc := ⟨.hbm, 299, rfl⟩
abbrev main_call22_v1 : Ref sig .tc := ⟨.hbm, 300, rfl⟩
abbrev main_v160 : Ref sig .tc := ⟨.hbm, 301, rfl⟩
abbrev main_cst_44 : Ref sig .tc := ⟨.hbm, 302, rfl⟩
abbrev main_v161 : Ref sig .tc := ⟨.hbm, 303, rfl⟩
abbrev main_v162 : Ref sig .tc := ⟨.hbm, 304, rfl⟩

abbrev nD : Nat := 1
abbrev τ : Topo := Topo.v7x

variable {F : FTy → Type} [FloatOps F]

abbrev main_while0_count : Scf.Loop 32 := ⟨0#32, 511#32, 1#32⟩
-- ==== Proof.LoopIdeal.lean ====
/-
  The minimum spanning tree's loop, one trip of it over the four clouds: it reads one row of each cloud's distance
  block in the scratch buffer at an index the carried values give, and writes nothing.  The trip's value is found by
  running its region once; the loop's invariant says the scratch buffer keeps its contents and the carried value is
  the iterate of that trip's value.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- A memref's buffer on core `c`: its contents type. -/
abbrev Bf (c : Dev nD) {sp : Space} {S : Shape} {e : EltTy} (M : Memref sig .tc sp S e) : Type := Buf (Elt F) (M.view.loc (c : Thread nD τ))
/-- The buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the loop carries: the four clouds' distances to the tree, and the four sums of squared tree edges. -/
abbrev Carry (F : FTy → Type) : Type := FVec F S4x128 .f32 × FVec F S4x128 .f32 × FVec F S4x128 .f32 × FVec F S4x128 .f32 × F .f32 × F .f32 × F .f32 × F .f32

/-- A word kept to nine bits is below 512. -/
theorem low9 (v : BitVec 32) : (Scalar.indexCast (Scalar.andi v 511#32)).toNat + 1 ≤ 512 := by
  show (v &&& 511#32).toNat + 1 ≤ 512
  have := Nat.and_le_right (n := v.toNat) (m := 511)
  rw [BitVec.toNat_and]; simp only [BitVec.toNat_ofNat, Nat.reducePow, Nat.reduceMod] at this ⊢; omega

theorem chk1 (v : BitVec 32) : k0_chk1 v := by
  intro a; fin_cases a
  · exact (by decide : 0 + 1 ≤ 4)
  · exact low9 v
  · exact (by decide : 0 + 4 ≤ 4)
  · exact (by decide : 0 + 128 ≤ 128)

theorem chk2 (v : BitVec 32) : k0_chk2 v := by
  intro a; fin_cases a
  · exact (by decide : 1 + 1 ≤ 4)
  · exact low9 v
  · exact (by decide : 0 + 4 ≤ 4)
  · exact (by decide : 0 + 128 ≤ 128)

theorem chk3 (v : BitVec 32) : k0_chk3 v := by
  intro a; fin_cases a
  · exact (by decide : 2 + 1 ≤ 4)
  · exact low9 v
  · exact (by decide : 0 + 4 ≤ 4)
  · exact (by decide : 0 + 128 ≤ 128)

theorem chk4 (v : BitVec 32) : k0_chk4 v := by
  intro a; fin_cases a
  · exact (by decide : 3 + 1 ≤ 4)
  · exact low9 v
  · exact (by decide : 0 + 4 ≤ 4)
  · exact (by decide : 0 + 128 ≤ 128)

/-- One trip from a carried value over the scratch contents `f2`: the value it leaves, with the proof that the
    region runs to it and keeps the scratch buffer. -/
noncomputable def trip (c : Dev nD) (arg0 : Memref sig .tc .vmem S4x512x128 .f32) (harg0 : arg0.IsWhole) (arg1 : Memref sig .tc .smem S4 .f32) (harg1 : arg1.IsWhole) (arg2 : Memref sig .tc .vmem S4x512x4x128 .f32) (harg2 : arg2.IsWhole)
    (v254 : IVec S4x128 32) (cst_109 : F .f32) (f2 : Bf (F := F) c arg2)
    (a4 a5 a6 a7 : FVec F S4x128 .f32) (a8 a9 a10 a11 : F .f32) :
    { y : Carry F // ∀ k : Fin (Scf.trips k0_t1_loop.lb k0_t1_loop.ub k0_t1_loop.st),
        (pt c arg2 f2 : sProp 𝕄) ⊢ wp Idealize.ShloMosaic.frame (wpE (defs₀ (F := F)) 𝒱₀ (c : Thread nD τ) none) Set.univ
          (k0_t1_body (F := F) arg0 harg0 arg1 harg1 arg2 harg2 v254 cst_109 k (a4, a5, a6, a7, a8, a9, a10, a11))
          (fun r => iprop(pt c arg2 f2 ∗ ⌜r = y⌝)) } := by
  refine ⟨?_, fun k => ?run⟩
  case run =>
    unfold k0_t1_body
    iintro H2
    sl_exec_parts! (disch := first | exact chk1 _ | exact chk2 _ | exact chk3 _ | exact chk4 _)
    sl_step
    isplitl [H2]; · iexact H2
    ipureintro; rfl

/-- The carried value before trip `k`. -/
noncomputable def iter (c : Dev nD) (arg0 : Memref sig .tc .vmem S4x512x128 .f32) (harg0 : arg0.IsWhole) (arg1 : Memref sig .tc .smem S4 .f32) (harg1 : arg1.IsWhole) (arg2 : Memref sig .tc .vmem S4x512x4x128 .f32) (harg2 : arg2.IsWhole)
    (v254 : IVec S4x128 32) (cst_109 : F .f32) (f2 : Bf (F := F) c arg2) (init : Carry F) : ℕ → Carry F
  | 0 => init
  | k + 1 =>
    let a := iter c arg0 harg0 arg1 harg1 arg2 harg2 v254 cst_109 f2 init k
    (trip c arg0 harg0 arg1 harg1 arg2 harg2 v254 cst_109 f2 a.1 a.2.1 a.2.2.1 a.2.2.2.1 a.2.2.2.2.1 a.2.2.2.2.2.1 a.2.2.2.2.2.2.1 a.2.2.2.2.2.2.2).1

/-- The loop's invariant: the scratch buffer at `f2`, the carried value the iterate. -/
@[sl_loop, instance_reducible] noncomputable def loopInv_k0_t1 (c : Dev nD) (arg0 : Memref sig .tc .vmem S4x512x128 .f32) (harg0 : arg0.IsWhole) (arg1 : Memref sig .tc .smem S4 .f32) (harg1 : arg1.IsWhole) (arg2 : Memref sig .tc .vmem S4x512x4x128 .f32) (harg2 : arg2.IsWhole) (f2 : Bf (F := F) c arg2) (v254 : IVec S4x128 32) (cst_109 : F .f32) (init : FVec F S4x128 .f32 × FVec F S4x128 .f32 × FVec F S4x128 .f32 × FVec F S4x128 .f32 × F .f32 × F .f32 × F .f32 × F .f32) :
    Cert.KernelIdeal.Gen.LoopInvTy_k0_t1 (F := F) Unit ℕ (UU nD τ) ℕ 𝒱₀ c none Set.univ arg0 harg0 arg1 harg1 arg2 harg2 v254 cst_109 init where
  inv := fun k acc => iprop(pt c arg2 f2 ∗ ⌜acc = iter c arg0 harg0 arg1 harg1 arg2 harg2 v254 cst_109 f2 init k⌝)
  step := fun k acc => by
    iintro ⟨H2, %ha⟩
    subst ha
    iapply (trip c arg0 harg0 arg1 harg1 arg2 harg2 v254 cst_109 f2 _ _ _ _ _ _ _ _).2 k
    iexact H2

end Cert.Proof.KernelIdeal

end
-- ==== Proof.KernelIdealRun.lean ====
/-
  The kernel body, run once on buffers held whole: the result buffer ends at a value found by the run, over the input's
  contents alone; the scratch buffer ends at something.
-/
module

public import proofs.«01_k».proof.Proof.LoopIdeal
public import Idealize.ShloMosaic.Lib.Ring
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What the body leaves in its result block over the input block `x0`, with the proof that it runs to its return from
    the two blocks and the scratch buffer. -/
noncomputable def kernelRun (c : Dev nD)
    (M0 : Memref sig .tc .vmem S4x512x128 .f32) (h0 : M0.IsWhole) (M1 : Memref sig .tc .smem S4 .f32) (h1 : M1.IsWhole)
    (M2 : Memref sig .tc .vmem S4x512x4x128 .f32) (h2 : M2.IsWhole) (x0 : Vec F S4x512x128 .f32) :
    { Y : Vec F S4 .f32 //
      ∀ Q : PUnit → sProp 𝕄,
        iprop(owns (c : Thread nD τ) M0 fullShare x0 ∗ (∃ d, owns (c : Thread nD τ) M1 fullShare d) ∗ (∃ f, pt c M2 f)
          ∗ (iprop(owns (c : Thread nD τ) M0 fullShare x0 ∗ owns (c : Thread nD τ) M1 fullShare Y ∗ (∃ f, pt c M2 f)) -∗ Q ⟨⟩))
        ⊢ wp Idealize.ShloMosaic.frame (wpE (defs₀ (F := F)) 𝒱₀ (c : Thread nD τ) none) Set.univ
            (cc0__betti_kernel M0 h0 M1 h1 M2 h2) Q } := by
  refine ⟨?_, fun Q => ?run⟩
  case run =>
    unfold owns
    iintro ⟨⟨%f0, %hf0, H0⟩, ⟨%d1, %f1, -, H1⟩, ⟨%f2, H2⟩, Hk⟩
    obtain rfl := h0.eq_unread hf0
    sl_exec_parts!
    sl_step
    iapply Hk
    isplitl [H0]
    · iexists _; isplitr; · ipureintro; exact h0.read_unread _
      iexact H0
    isplitl [H1]
    · iexists _; isplitr; swap; · iexact H1
      ipureintro; rfl
    iexists _; iexact H2

end Cert.Proof.KernelIdeal

end
-- ==== Proof.KernelIdealFrame.lean ====
/-
  The kernel's launch: its one point, the proof data over the value the body leaves, the whole run, the frame, and the
  result array read at the end.
-/
module

public import proofs.«01_k».proof.Proof.KernelIdealRun
public import proofs.«01_k».proof.Proof.Gen.KernelIdeal.Frame
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The two staging buffers at the one point. -/
abbrev stIn (t : Fin cfg0.N) : Memref sig .tc .vmem S4x512x128 .f32 := win0_0.stage (cfg0.slots t 0)
abbrev stOut (t : Fin cfg0.N) : Memref sig .tc .smem S4 .f32 := win0_1.stage (cfg0.slots t 1)

/-- The body's result over an input block, at the point's buffers. -/
def leaves (c : Dev nD) (t : Fin cfg0.N) (x : Vec F S4x512x128 .f32) : Vec F S4 .f32 :=
  (kernelRun c (stIn t) (hstage0_0 0) (stOut t) (hstage0_1 0) (Memref.whole cc0_scratch0) (Memref.isWhole_whole _) x).1

/-- The proof data: the input block stays, the result block at what the body leaves, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => leaves c t (iblk m c 0 t)
  Φ _ := Pipeline.ΦA spec0 c
  q _ := fullShare
  owed _ := 0

theorem dats_A (c : Dev nD) (w : Fin cfg0.W) : (dats m 0 c).A w = V m c (Pipeline.arrRef spec0 w) := rfl
theorem after_in (c : Dev nD) (t : Fin cfg0.N) : (dats m 0 c).after 0 t = iblk m c 0 t := by dsimp only [dats]
theorem after_out (c : Dev nD) (t : Fin cfg0.N) : (dats m 0 c).after 1 t = leaves c t (iblk m c 0 t) := by dsimp only [dats]
theorem before_in (c : Dev nD) (t : Fin cfg0.N) (d) : (dats m 0 c).before 0 t d = iblk m c 0 t :=
  before0_0_of m (dats m 0 c) (dats_A m c 0) (after_in m c) t d

/-- The body's obligation at the point, from its run. -/
theorem body_ok (c : Dev nD) : BodyObligation (dats (F := F) m 0 c) (defs₀ (F := F)) 𝒱₀ () Set.univ := fun t => by
  rw [bigSep_W0, bigSep_W0]
  sl_whnfR [defs₀, Defs.onTc]
  simp only [before_in]
  rw [show (dats m 0 c).Φ t.succ = (dats m 0 c).Φ t.castSucc from rfl,
    show (dats m 0 c).owesAt () t.succ = (dats m 0 c).owesAt () t.castSucc from rfl, after_in, after_out,
    show (dats m 0 c).Φ t.castSucc = Pipeline.ΦA spec0 c from rfl]
  unfold leaves Pipeline.ΦA
  rw [scopedRest0_eq]
  iintro ⟨⟨HS, Hg⟩, Ho, ⟨%d0, H0⟩, ⟨%d1, H1⟩⟩
  iapply ((kernelRun c _ _ _ _ _ _ (iblk m c 0 t)).2 _)
  isplitl [H0]; · iexact H0
  isplitl [H1]; · iexists _; iexact H1
  isplitl [HS]; · iexact HS
  iintro ⟨H0, H1, HS⟩
  isplitl [HS Hg]
  · isplitl [HS]; · iexact HS
    iexact Hg
  isplitl [Ho]; · iexact Ho
  isplitl [H0]; · iexact H0
  iexact H1

-- the run's implicit arguments are found by unifying its conclusion with this one, through plain definitions
set_option backward.isDefEq.respectTransparency.types false in
/-- The whole run: it terminates, the arrays end at what the proof data say, every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_ok m c).loose) (hshare := fun c => (dats m 0 c).share_full fun _ => rfl)
    (howed := fun _ _ => rfl) (V := V m) (hmain := hmain m 𝒱₀) (hA := fun _ _ => rfl) (hΦ := fun _ _ => rfl)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

/-! ## The result array -/

theorem read_in (c : Dev nD) (f : Buf (Elt F) ((c : Thread nD τ).loc main_arg0)) :
    (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f
theorem read_out (c : Dev nD) (f : Buf (Elt F) ((c : Thread nD τ).loc main_v0)) :
    (win0_1.blk t0_0).view.read (Elt F) f = f :=
  Memref.read_access_unit_zero (Elt F) main_v0
    (show (fun a => (win0_1.index t0_0) a * main_v0.ty.shape.size a) = fun _ => 0 from
      funext fun a => by fin_cases a <;> decide) (fun a => by fin_cases a <;> decide) f

theorem iblk_in (c : Dev nD) : iblk (F := F) m c 0 t0_0 = m ((c : Thread nD τ).loc main_arg0) := by
  show (win0_0.blk t0_0).view.read (Elt F) (m ((c : Thread nD τ).loc main_arg0)) = _
  exact read_in c _

theorem flushed_out (c : Dev nD) : (dats (F := F) m 0 c).flushed 1 t0_0 = leaves c t0_0 (m ((c : Thread nD τ).loc main_arg0)) := by
  show (cfg0.win 1).cut _ ((dats (F := F) m 0 c).after 1 t0_0) = _
  rw [after_out, iblk_in]
  exact funext fun _ => rfl

/-- After the run the result array holds what the body left. -/
theorem arr_out (c : Dev nD) : (dats (F := F) m 0 c).arrAt 1 cfg0.N = leaves c t0_0 (m ((c : Thread nD τ).loc main_arg0)) := by
  have hw : ((cfg0.win 1).blk t0_0).view.read (Elt F) ((dats (F := F) m 0 c).arrAt 1 cfg0.N)
      = (dats (F := F) m 0 c).flushed 1 t0_0 := by
    rw [show cfg0.N = t0_0.val + 1 from rfl, (dats m 0 c).arrAt_succ (1 : Fin 2) t0_0, flush0_1, if_pos rfl]
    exact View.read_write_univ _ _
  rw [flushed_out] at hw
  exact (read_out c _).symm.trans hw

/-- The whole run with its result named. -/
theorem value_main : θ_run defs (onTc (τ := τ) (main (F := F))) ⟨m, fun _ => 0, ρ⟩ (fun r => ∀ c : Dev nD,
      r.2.mem ((c.tc : Thread nD τ).loc main_v0) = leaves c t0_0 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (arr_out m c),
      ((h.1 c).1 0).trans (((dats m 0 c).arrAt_in 0 rfl _).trans ((dats_A m c 0).trans (V_main_arg0 m c))),
      ((h.1 c).2 main_arg1 (Pipeline.mem_restRefs_of main_arg1 (by decide) (by decide))).trans (V_main_arg1 m c)⟩) (run_main m ρ)

end Cert.Proof.KernelIdeal

end
-- ==== Proof.Cloud.lean ====
/-
  One cloud of 512 points in 128 channels, its values in the extended reals: the points divided by each channel's
  norm, their squared lengths and products, the matrix of distances with a large number on its diagonal.  Whatever the
  points are, the divided ones are reals between -1 and 1, so a distance off the diagonal is a real below that number.
-/
module

public import Idealize.ShloMosaic.Lib.Pointwise

@[expose] public section

noncomputable section

namespace Cert.Proof.Cloud

open Idealize.ShloMosaic

/-- The number that stands for no distance: what both programs write on the diagonal. -/
def big : EReal := Ideal.ofBits .f32 0x7149F2CA#32
/-- The small number both programs add below a root and bound a norm by. -/
def eps : EReal := Ideal.ofBits .f32 0x2B8CBCCC#32
/-- Two. -/
def two : EReal := Ideal.ofBits .f32 0x40000000#32
/-- The largest float, which the kernel writes over a point it has taken. -/
def most : EReal := Ideal.ofBits .f32 0x7F7FFFFF#32

/-- `big` as a real. -/
def bigR : ℝ := 13234890 * 2 ^ 76
/-- `eps` as a real. -/
def epsR : ℝ := 9223372 / 2 ^ 63

theorem big_eq : big = (bigR : EReal) := by
  unfold big bigR
  simp [Ideal.ofBits, Ideal.ieee, -EReal.coe_mul]

theorem eps_eq : eps = (epsR : EReal) := by
  unfold eps epsR
  simp [Ideal.ofBits, Ideal.ieee, -EReal.coe_mul]; norm_num

theorem two_eq : two = ((2 : ℝ) : EReal) := by
  unfold two
  simp [Ideal.ofBits, Ideal.ieee, -EReal.coe_mul]; norm_num

theorem most_eq : most = ((16777215 * 2 ^ 104 : ℝ) : EReal) := by
  unfold most
  simp [Ideal.ofBits, Ideal.ieee, -EReal.coe_mul]

theorem big_le_most : big ≤ most := by
  rw [big_eq, most_eq, EReal.coe_le_coe_iff]; unfold bigR; norm_num

theorem epsR_pos : 0 < epsR := by unfold epsR; norm_num
theorem epsR_le : epsR ≤ 1 := by unfold epsR; norm_num
theorem bigR_ge : 1000 ≤ bigR := by unfold bigR; norm_num

/-- A cloud: points by channels. -/
abbrev Pts := Fin 512 → Fin 128 → EReal

/-- A channel's norm over the points, bounded below. -/
def nrm (x : Pts) (c : Fin 128) : EReal := max (Ideal.sqrt (∑ n : Fin 512, x n c * x n c)) eps

/-- The cloud divided by its norms. -/
def unit (x : Pts) : Pts := fun n c => Ideal.div (x n c) (nrm x c)

/-- A point's squared length. -/
def sq (y : Pts) (i : Fin 512) : EReal := ∑ c : Fin 128, y i c * y i c

/-- The product of two points. -/
def gram (y : Pts) (i j : Fin 512) : EReal := ∑ c : Fin 128, y i c * y j c

/-- The distance of two points, and `big` on the diagonal. -/
def dist (y : Pts) (i j : Fin 512) : EReal :=
  if i = j then big else Ideal.sqrt (max (sq y i + sq y j - two * gram y i j) 0 + eps)

/-! ## The divided points -/

theorem mul_self_nonneg' (a : EReal) : 0 ≤ a * a := by
  induction a with
  | bot => simp
  | top => simp
  | coe r => rw [← EReal.coe_mul]; exact EReal.coe_nonneg.mpr (mul_self_nonneg r)

theorem mul_self_coe {a : EReal} (h : a * a ≠ ⊤) : ∃ r : ℝ, a = r := by
  induction a with
  | bot => simp at h
  | top => simp at h
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem unit_real (x : Pts) (n : Fin 512) (c : Fin 128) : ∃ r : ℝ, unit x n c = r ∧ |r| ≤ 1 := by
  unfold unit nrm
  have hsum : ∀ m, x m c * x m c ≤ ∑ n : Fin 512, x n c * x n c := fun m =>
    Finset.single_le_sum (f := fun n => x n c * x n c) (fun i _ => mul_self_nonneg' _) (Finset.mem_univ m)
  by_cases ht : (∑ n : Fin 512, x n c * x n c) = ⊤
  · rw [ht, Ideal.sqrt_top, max_eq_left le_top]
    refine ⟨0, ?_, by simp⟩
    simp [Ideal.div]
  · have hne : ∀ m, x m c * x m c ≠ ⊤ := fun m h => ht (top_le_iff.mp (h ▸ hsum m))
    choose r hr using fun m => mul_self_coe (hne m)
    have hs : (∑ n : Fin 512, x n c * x n c) = ((∑ n : Fin 512, r n * r n : ℝ) : EReal) := by
      rw [coe_sum]; exact Finset.sum_congr rfl fun m _ => by rw [hr m, EReal.coe_mul]
    have h0 : 0 ≤ ∑ n : Fin 512, r n * r n := Finset.sum_nonneg fun _ _ => mul_self_nonneg _
    have h1 : r n * r n ≤ ∑ n : Fin 512, r n * r n :=
      Finset.single_le_sum (f := fun n => r n * r n) (fun i _ => mul_self_nonneg _) (Finset.mem_univ n)
    rw [hs, hr n, Ideal.sqrt_coe, if_neg (not_lt.mpr h0), eps_eq, ← EReal.coe_strictMono.monotone.map_max]
    set d : ℝ := max (Real.sqrt (∑ n : Fin 512, r n * r n)) epsR with hd
    have hd0 : 0 < d := lt_of_lt_of_le epsR_pos (le_max_right _ _)
    rw [Ideal.div_coe hd0.ne', ← EReal.coe_mul]
    refine ⟨_, rfl, ?_⟩
    rw [mul_one_div, abs_div, abs_of_pos hd0, div_le_one hd0]
    refine le_trans ?_ (le_max_left _ _)
    rw [← Real.sqrt_sq_eq_abs]
    exact Real.sqrt_le_sqrt (by rw [pow_two]; exact h1)

/-- The divided points, as reals. -/
theorem unit_reals (x : Pts) : ∃ q : Fin 512 → Fin 128 → ℝ, unit x = (fun n c => (q n c : EReal)) ∧ ∀ n c, |q n c| ≤ 1 := by
  choose q hq using unit_real x
  exact ⟨q, funext fun n => funext fun c => (hq n c).1, fun n c => (hq n c).2⟩

/-! ## Distances -/

variable (q : Fin 512 → Fin 128 → ℝ)

theorem gram_coe (i j : Fin 512) : gram (fun n c => (q n c : EReal)) i j = ((∑ c, q i c * q j c : ℝ) : EReal) := by
  unfold gram; rw [coe_sum]; exact Finset.sum_congr rfl fun _ _ => (EReal.coe_mul _ _).symm

theorem sq_coe (i : Fin 512) : sq (fun n c => (q n c : EReal)) i = ((∑ c, q i c * q i c : ℝ) : EReal) := gram_coe q i i

theorem gram_abs (h : ∀ n c, |q n c| ≤ 1) (i j : Fin 512) : |∑ c, q i c * q j c| ≤ 128 := by
  refine (Finset.abs_sum_le_sum_abs _ _).trans ?_
  refine (Finset.sum_le_sum (g := fun _ => (1 : ℝ)) fun c _ => ?_).trans (by simp)
  rw [abs_mul]
  exact mul_le_one₀ (h i c) (abs_nonneg _) (h j c)

/-- A squared length of a divided point is less than `big`. -/
theorem sq_le_big (x : Pts) (i : Fin 512) : sq (unit x) i ≤ big := by
  obtain ⟨q, hq, h⟩ := unit_reals x
  rw [hq, sq_coe, big_eq, EReal.coe_le_coe_iff]
  have := abs_le.mp (gram_abs q h i i)
  have := bigR_ge
  linarith

/-- Off the diagonal a distance is a real, not negative and less than `big`. -/
theorem dist_off (x : Pts) {i j : Fin 512} (hij : i ≠ j) : ∃ r : ℝ, dist (unit x) i j = r ∧ 0 ≤ r ∧ r < bigR := by
  obtain ⟨q, hq, h⟩ := unit_reals x
  unfold dist
  rw [if_neg hij, hq, sq_coe, sq_coe, gram_coe, two_eq, eps_eq, ← EReal.coe_mul, ← EReal.coe_add, ← EReal.coe_sub, ← EReal.coe_zero,
    ← EReal.coe_strictMono.monotone.map_max, ← EReal.coe_add, Ideal.sqrt_coe]
  have h1 := abs_le.mp (gram_abs q h i i)
  have h2 := abs_le.mp (gram_abs q h j j)
  have h3 := abs_le.mp (gram_abs q h i j)
  set s := max ((∑ c, q i c * q i c) + (∑ c, q j c * q j c) - 2 * ∑ c, q i c * q j c) 0 with hs
  have h0 : 0 ≤ s := le_max_right _ _
  have h4 : s ≤ 512 := max_le (by linarith [h1.2, h2.2, h3.1]) (by norm_num)
  have he := epsR_pos
  have he' := epsR_le
  rw [if_neg (by linarith)]
  refine ⟨_, rfl, Real.sqrt_nonneg _, ?_⟩
  have : Real.sqrt (s + epsR) ≤ 1000 - 1 := Real.sqrt_le_iff.mpr ⟨by norm_num, by nlinarith⟩
  linarith [bigR_ge]

theorem dist_self (y : Pts) (i : Fin 512) : dist y i i = big := if_pos rfl

end Cert.Proof.Cloud

end
-- ==== Proof.Least.lean ====
/-
  The least of 512 extended reals and the first place it stands at; the spanning tree's loop as both programs run it
  (the kernel writes the largest float over a point it has taken, the reference writes `big`), and why both meet the
  same least values.
-/
module

public import proofs.«01_k».proof.Proof.Cloud

@[expose] public section

noncomputable section

namespace Cert.Proof.Cloud

open Idealize.ShloMosaic

theorem inf_bits : Ideal.ofBits .f32 0x7F800000#32 = ⊤ := by
  simp [Ideal.ofBits, Ideal.ieee]

/-- A row: one value per point. -/
abbrev Row := Fin 512 → EReal

/-- The least value of a row. -/
def least (f : Row) : EReal := Finset.univ.inf f

theorem fold_least (f : Row) : Finset.fold min (Ideal.ofBits .f32 0x7F800000#32) f Finset.univ = least f := by
  rw [inf_bits]; rfl

theorem least_le (f : Row) (i : Fin 512) : least f ≤ f i := Finset.inf_le (Finset.mem_univ i)

theorem exists_least (f : Row) : ∃ i, f i = least f := by
  obtain ⟨i, -, h⟩ := Finset.exists_mem_eq_inf Finset.univ ⟨(0 : Fin 512), Finset.mem_univ _⟩ f
  exact ⟨i, h.symm⟩

theorem le_least {f : Row} {a : EReal} (h : ∀ i, a ≤ f i) : a ≤ least f := Finset.le_inf fun i _ => h i

theorem least_eq {f : Row} {k : Fin 512} (h : ∀ i, f k ≤ f i) : least f = f k := le_antisymm (least_le f k) (le_least h)

/-- The places of the least value. -/
def places (f : Row) : Finset (Fin 512) := Finset.univ.filter fun i => f i = least f

theorem places_nonempty (f : Row) : (places f).Nonempty := by
  obtain ⟨i, h⟩ := exists_least f
  exact ⟨i, Finset.mem_filter.mpr ⟨Finset.mem_univ _, h⟩⟩

/-- The first place of the least value. -/
def first (f : Row) : Fin 512 := (places f).min' (places_nonempty f)

theorem at_first (f : Row) : f (first f) = least f := (Finset.mem_filter.mp ((places f).min'_mem (places_nonempty f))).2

theorem first_le {f : Row} {i : Fin 512} (h : f i = least f) : first f ≤ i :=
  (places f).min'_le i (Finset.mem_filter.mpr ⟨Finset.mem_univ _, h⟩)

theorem first_eq_of {f : Row} {k : Fin 512} (h : f k = least f) (hk : ∀ i, f i = least f → k ≤ i) : first f = k :=
  le_antisymm (first_le h) (hk _ (at_first f))

/-! ## The first place as an integer -/

theorem toInt_minsi {w : ℕ} (a b : BitVec w) : (IntOp.minsi a b).toInt = min a.toInt b.toInt := by
  unfold IntOp.minsi
  by_cases h : a.slt b = true
  · rw [if_pos h]; exact (min_eq_left (BitVec.slt_iff_toInt_lt.mp h).le).symm
  · rw [if_neg h]; exact (min_eq_right (not_lt.mp fun h' => h (BitVec.slt_iff_toInt_lt.mpr h'))).symm

theorem toInt_ofNat_lt {k : ℕ} (h : k < 1024) : (BitVec.ofNat 32 k).toInt = k := by
  rw [BitVec.toInt_eq_toNat_of_lt] <;> rw [BitVec.toNat_ofNat, Nat.mod_eq_of_lt (by omega)]
  omega

theorem ofNat_inj {i j : Fin 512} : BitVec.ofNat 32 i.val = BitVec.ofNat 32 j.val ↔ i = j := by
  refine ⟨fun h => Fin.ext ?_, fun h => h ▸ rfl⟩
  have := congrArg BitVec.toInt h
  rw [toInt_ofNat_lt (by omega), toInt_ofNat_lt (by omega)] at this
  exact_mod_cast this

/-- A choice by equality of two points' indices. -/
theorem select_ofNat_eq {α : Type} (i j : Fin 512) (u v : α) :
    Scalar.select (IntOp.cmpi .eq (BitVec.ofNat 32 i.val) (BitVec.ofNat 32 j.val)) u v = if i = j then u else v := by
  by_cases h : i = j
  · subst h
    rw [if_pos rfl]
    have e : IntOp.cmpi .eq (BitVec.ofNat 32 i.val) (BitVec.ofNat 32 i.val) = 1#1 := by simp [IntOp.cmpi]
    rw [e]; rfl
  · rw [if_neg h]
    have e : IntOp.cmpi .eq (BitVec.ofNat 32 i.val) (BitVec.ofNat 32 j.val) = 0#1 := by
      have hb : (BitVec.ofNat 32 i.val == BitVec.ofNat 32 j.val) = false := by rw [beq_eq_false_iff_ne]; exact fun e => h (ofNat_inj.mp e)
      show BitVec.ofBool (BitVec.ofNat 32 i.val == BitVec.ofNat 32 j.val) = 0#1
      rw [hb]; rfl
    rw [e]; rfl

/-- The least of the indices of the places of the least value, as the programs' integer minimum gives it. -/
theorem fold_first (f : Row) (v : EReal) (hv : v = least f) :
    Finset.fold IntOp.minsi (2147483647#32) (fun x : Fin 512 => if f x = v then BitVec.ofNat 32 x.val else 512#32) Finset.univ
      = BitVec.ofNat 32 (first f).val := by
  subst hv
  apply BitVec.eq_of_toInt_eq
  rw [toInt_ofNat_lt (by omega)]
  have h := Finset.fold_hom (op := IntOp.minsi (w := 32)) (op' := min) (m := BitVec.toInt) (s := (Finset.univ : Finset (Fin 512)))
    (b := 2147483647#32) (f := fun x : Fin 512 => if f x = least f then BitVec.ofNat 32 x.val else 512#32)
    (fun a b => toInt_minsi a b)
  rw [← h]
  apply le_antisymm
  · rw [Finset.fold_min_le]
    refine Or.inr ⟨first f, Finset.mem_univ _, ?_⟩
    rw [if_pos (at_first f), toInt_ofNat_lt (by omega)]
  · rw [Finset.le_fold_min]
    refine ⟨?_, fun x _ => ?_⟩
    · have := (first f).isLt
      have h' : (2147483647#32).toInt = 2147483647 := by decide
      rw [h']; omega
    · split
      · rename_i hx
        rw [toInt_ofNat_lt (by omega)]
        exact_mod_cast first_le hx
      · have := (first f).isLt
        have h' : (512#32).toInt = 512 := by decide
        rw [h']; omega

/-! ## The tree's loop -/

/-- One step: the first least point is taken, `top` written over it, and every other point's value lowered to its
    distance from it. -/
def take (top : EReal) (D : Fin 512 → Row) (md : Row) : Row :=
  fun i => if i = first md then top else min (md i) (D (first md) i)

/-- The loop's row after `k` steps. -/
def rows (top : EReal) (D : Fin 512 → Row) : ℕ → Row
  | 0 => D 0
  | k + 1 => take top D (rows top D k)

/-- How the two loops' rows agree: but for one place, where both hold at least `big`. -/
def Agree (a b : Row) : Prop :=
  ∃ l, (∀ i, i ≠ l → a i = b i ∧ ∃ r : ℝ, a i = r ∧ 0 ≤ r ∧ r < bigR) ∧ big ≤ a l ∧ big ≤ b l

theorem Agree.spec {a b : Row} (h : Agree a b) :
    least a = least b ∧ first a = first b ∧ (∃ r : ℝ, least a = r) := by
  obtain ⟨l, hne, ha, hb⟩ := h
  have lt_of : ∀ i, i ≠ l → a i < big := fun i hi => by
    obtain ⟨-, r, hr, -, h⟩ := hne i hi
    rw [hr, big_eq]; exact EReal.coe_lt_coe_iff.mpr h
  obtain ⟨k, hk⟩ : ∃ k : Fin 512, k ≠ l := exists_ne l
  have la : least a < big := (least_le a k).trans_lt (lt_of k hk)
  have lb : least b < big := (least_le b k).trans_lt ((hne k hk).1 ▸ lt_of k hk)
  have na : ∀ i, a i = least a → i ≠ l := fun i h e => by
    subst e; exact absurd ha (not_le.mpr (h ▸ la))
  have nb : ∀ i, b i = least b → i ≠ l := fun i h e => by
    subst e; exact absurd hb (not_le.mpr (h ▸ lb))
  have e : least a = least b := by
    apply le_antisymm
    · obtain ⟨i, hi⟩ := exists_least b
      rw [← hi, ← (hne i (nb i hi)).1]; exact least_le a i
    · obtain ⟨i, hi⟩ := exists_least a
      rw [← hi, (hne i (na i hi)).1]; exact least_le b i
  have pa : ∀ i, a i = least a ↔ b i = least b := fun i =>
    ⟨fun h => by rw [← (hne i (na i h)).1, h, e], fun h => by rw [(hne i (nb i h)).1, h, e]⟩
  refine ⟨e, ?_, ?_⟩
  · refine first_eq_of ((pa _).mpr (at_first b)) fun i hi => first_le ((pa i).mp hi)
  · obtain ⟨i, hi⟩ := exists_least a
    obtain ⟨-, r, hr, -⟩ := hne i (na i hi)
    exact ⟨r, by rw [← hi, hr]⟩

theorem Agree.first_ne {a b : Row} (h : Agree a b) : ∃ l, l ≠ first a ∧ (∀ i, i ≠ l → a i = b i ∧ ∃ r : ℝ, a i = r ∧ 0 ≤ r ∧ r < bigR) ∧
    big ≤ a l ∧ big ≤ b l := by
  obtain ⟨l, hne, ha, hb⟩ := h
  refine ⟨l, fun e => ?_, hne, ha, hb⟩
  obtain ⟨k, hk⟩ : ∃ k : Fin 512, k ≠ l := exists_ne l
  obtain ⟨-, r, hr, -, h⟩ := hne k hk
  have : least a < big := (least_le a k).trans_lt (by rw [hr, big_eq]; exact EReal.coe_lt_coe_iff.mpr h)
  rw [← at_first, ← e] at this
  exact absurd ha (not_le.mpr this)

theorem min_real {u v : EReal} {r s : ℝ} (hu : u = r) (hv : v = s) (hr : 0 ≤ r ∧ r < bigR) (hs : 0 ≤ s ∧ s < bigR) :
    ∃ t : ℝ, min u v = t ∧ 0 ≤ t ∧ t < bigR := by
  rcases min_choice u v with h | h
  · exact ⟨r, h.trans hu, hr⟩
  · exact ⟨s, h.trans hv, hs⟩

variable {D : Fin 512 → Row} (hD : ∀ i j, i ≠ j → ∃ r : ℝ, D i j = r ∧ 0 ≤ r ∧ r < bigR)
include hD

theorem Agree.take {a b : Row} (h : Agree a b) : Agree (Cloud.take most D a) (Cloud.take big D b) := by
  obtain ⟨-, hf, -⟩ := h.spec
  obtain ⟨l, hl, hne, ha, hb⟩ := h.first_ne
  unfold Cloud.take
  rw [← hf]
  set j := first a
  refine ⟨j, fun i hi => ?_, ?_, ?_⟩
  · obtain ⟨d, hd, hd0, hd1⟩ := hD j i hi.symm
    simp only [if_neg hi]
    by_cases hil : i = l
    · subst hil
      have hlt : D j i ≤ big := by rw [hd, big_eq]; exact EReal.coe_le_coe_iff.mpr hd1.le
      rw [min_eq_right (hlt.trans ha), min_eq_right (hlt.trans hb)]
      exact ⟨rfl, d, hd, hd0, hd1⟩
    · obtain ⟨e, r, hr, hr01⟩ := hne i hil
      rw [← e]
      exact ⟨rfl, min_real hr hd hr01 ⟨hd0, hd1⟩⟩
  · simp only [if_pos]; exact big_le_most
  · simp only [if_pos]; exact le_rfl

theorem rows_agree (h0 : D 0 0 = big) : ∀ k, Agree (rows most D k) (rows big D k)
  | 0 => ⟨0, fun i hi => ⟨rfl, hD 0 i hi.symm⟩, h0.ge, h0.ge⟩
  | k + 1 => (rows_agree h0 k).take hD

end Cert.Proof.Cloud

end
-- ==== Proof.Sorting.lean ====
/-
  A row in ascending order: its sum is the row's sum, its first value the least, and its second the least of the
  others than the first least one.
-/
module

public import proofs.«01_k».proof.Proof.Least
public import Idealize.ShloMosaic.Lib.SortFacts

@[expose] public section

noncomputable section

namespace Cert.Proof.Cloud

open Idealize.ShloMosaic

/-- Which position a stable ascending sort of `f` puts at each place. -/
def place {n : ℕ} (f : Fin n → EReal) : Fin n → Fin n := sortedFrom fun k k' => decide (f k < f k')

theorem place_bijective {n : ℕ} (f : Fin n → EReal) : Function.Bijective (place f) :=
  ⟨sortedFrom_injective _, sortedFrom_surjective _⟩

theorem place_mono {n : ℕ} (f : Fin n → EReal) {i j : Fin n} (h : i < j) : f (place f i) ≤ f (place f j) := by
  have := sortedFrom_noInversion (fun k k' => decide (f k < f k')) (fun k k' => decide (f k < f k'))
    (fun a b h => by simp only [decide_eq_true_eq, decide_eq_false_iff_not, not_lt] at h ⊢; exact h.le) (fun _ _ h => h)
    (fun a b c h1 h2 => by simp only [decide_eq_false_iff_not, not_lt] at h1 h2 ⊢; exact h2.trans h1) i j h
  simpa [place] using this

theorem sum_place {n : ℕ} (f : Fin n → EReal) (g : EReal → EReal) : ∑ k, g (f (place f k)) = ∑ k, g (f k) :=
  (place_bijective f).sum_comp fun k => g (f k)

/-- The row with `big` over its first least value. -/
def others (f : Row) : Row := fun i => if i = first f then big else f i

theorem sorted_zero (f : Row) : f (place f 0) = least f := by
  refine (least_eq fun i => ?_).symm
  obtain ⟨k, rfl⟩ := (place_bijective f).2 i
  rcases (Fin.zero_le k).eq_or_lt with h | h
  · rw [h]
  · exact place_mono f h

theorem sorted_one (f : Row) (hf : ∀ i, f i ≤ big) : f (place f 1) = least (others f) := by
  have hne : place f 1 ≠ place f 0 := fun h => absurd ((place_bijective f).1 h) (by decide)
  have hle : ∀ i, i ≠ place f 0 → f (place f 1) ≤ f i := fun i hi => by
    obtain ⟨k, rfl⟩ := (place_bijective f).2 i
    have hk : k ≠ 0 := fun e => hi (by rw [e])
    have h1 : (1 : Fin 512) ≤ k := by
      rw [Fin.le_def]
      have : k.val ≠ 0 := fun e => hk (Fin.ext e)
      show 1 ≤ k.val
      omega
    rcases h1.eq_or_lt with h | h
    · rw [h]
    · exact place_mono f h
  have h0 := sorted_zero f
  apply le_antisymm
  · refine le_least fun i => ?_
    unfold others
    split
    · exact hf _
    · rename_i hi
      by_cases h : i = place f 0
      · rw [h, h0, ← at_first f]
        exact hle _ fun e => hi (by rw [h, e])
      · exact hle i h
  · by_cases h : place f 1 = first f
    · refine (least_le _ (place f 0)).trans ?_
      unfold others
      rw [if_neg (by rw [← h]; exact hne.symm), h0]
      exact least_le f _
    · refine (least_le _ (place f 1)).trans ?_
      unfold others
      rw [if_neg h]

end Cert.Proof.Cloud

end
-- ==== Proof.PayRead.lean ====
/-
  The values the kernel computes for one cloud, read at an index: the distances, each point's least distance, the sum of
  the squared differences of the two nearest distances, and the block of distances it keeps for the loop.
-/
module

public import proofs.«01_k».proof.Proof.Least
public import proofs.«01_k».proof.Proof.Sorting
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Cert.Proof.Cloud

/-- The cloud of a block of one. -/
def pts (X : Vec Ideal S1x512x128 .f32) : Pts := fun n c => X (ix3 0 n c)

/-- The distances of the cloud of a block. -/
abbrev Dst (X : Vec Ideal S1x512x128 .f32) : Fin 512 → Row := dist (unit (pts X))

theorem pay22_at (X : Vec Ideal S1x512x128 .f32) (n : Fin 512) (c : Fin 128) :
    k0_pay22 X (ix2 n c) = unit (pts X) n c := by
  pointwise [k0_pay22]
  rfl

theorem pay23_at (X : Vec Ideal S1x512x128 .f32) (i j : Fin 512) :
    k0_pay23 X (ix2 i j) = gram (unit (pts X)) i j := by
  pointwise [k0_pay23]
  simp only [pay22_at]; rfl

theorem pay24_at (X : Vec Ideal S1x512x128 .f32) (i j : Fin 512) :
    k0_pay24 X (ix2 i j) = sq (unit (pts X)) i := by
  pointwise [k0_pay24]
  simp only [pay22_at]; rfl

/-- The row and the column numbers. -/
abbrev io0 : IVec S512x512 32 := iota .tc S512x512 32 [0] iota_S512x512_d0_w32
@[inherit_doc io0] abbrev io1 : IVec S512x512 32 := iota .tc S512x512 32 [1] iota_S512x512_d1_w32

theorem pay25_at (X : Vec Ideal S1x512x128 .f32) (i j : Fin 512) :
    k0_pay25 io0 io1 X (ix2 i j) = sq (unit (pts X)) j := by
  pointwise [k0_pay25]
  simp only [select_ofNat_eq, pay23_at]
  refine (fold_least _).trans ?_
  refine (least_eq (k := j) fun x => ?_).trans (if_pos rfl)
  rw [if_pos rfl]
  split
  · rename_i h; rw [h]
  · exact sq_le_big (pts X) j

theorem pay18_at (X : Vec Ideal S1x512x128 .f32) (i j : Fin 512) : k0_pay18 X (ix2 i j) = Dst X i j := by
  have e : k0_pay18 X = k0_pay26 io0 io1 (k0_pay23 X) (k0_pay24 X) (k0_pay25 io0 io1 X) := rfl
  rw [e]
  pointwise [k0_pay26]
  rw [pay23_at, pay24_at, pay25_at, select_ofNat_eq]
  rfl

theorem pay20_at (X : Vec Ideal S1x512x128 .f32) (i : Fin 512) (j : Fin 1) : k0_pay20 X (ix2 i j) = least (Dst X i) := by
  pointwise [k0_pay20]
  simp only [pay18_at]
  exact fold_least _

/-- The sum of the squared differences of the two nearest distances over the first half of the points. -/
def near (D : Fin 512 → Row) : EReal :=
  ∑ k : Fin 512, if k.val < 256 then (least (others (D k)) - least (D k)) * (least (others (D k)) - least (D k)) else 0

/-- A choice by a point's index below 256. -/
theorem select_half (k : Fin 512) (u v : EReal) :
    Scalar.select (IntOp.cmpi .slt (BitVec.ofNat 32 k.val) 256#32) u v = if k.val < 256 then u else v := by
  have h256 : (256#32).toInt = 256 := by decide
  have e : IntOp.cmpi .slt (BitVec.ofNat 32 k.val) 256#32 = BitVec.ofBool ((BitVec.ofNat 32 k.val).slt 256#32) := rfl
  by_cases h : k.val < 256
  · have hb : (BitVec.ofNat 32 k.val).slt 256#32 = true := by
      rw [BitVec.slt_iff_toInt_lt, toInt_ofNat_lt (by omega), h256]; exact_mod_cast h
    rw [if_pos h, e, hb]; rfl
  · have hb : (BitVec.ofNat 32 k.val).slt 256#32 = false := by
      rw [← Bool.not_eq_true, BitVec.slt_iff_toInt_lt, toInt_ofNat_lt (by omega), h256]; exact_mod_cast h
    rw [if_neg h, e, hb]; rfl

theorem pay21_at (X : Vec Ideal S1x512x128 .f32) : k0_pay21 io1 (k0_pay18 X) (k0_pay20 X) = near (Dst X) := by
  obtain ⟨R, hR⟩ : ∃ R, R = near (Dst X) := ⟨_, rfl⟩
  rw [← hR]
  pointwise [k0_pay21]
  simp only [pay18_at, pay20_at]
  rw [hR]
  refine Finset.sum_congr (M := EReal) rfl fun k _ => ?_
  refine (Fintype.sum_unique (M := EReal) _).trans ?_
  have e : Finset.fold min (Ideal.ofBits .f32 0x7F800000#32) (fun x : Fin 512 =>
      Scalar.select (IntOp.cmpi .eq (BitVec.ofNat 32 x.val) (Finset.fold IntOp.minsi (2147483647#32)
        (fun y : Fin 512 => if Dst X k y = least (Dst X k) then BitVec.ofNat 32 y.val else 512#32) Finset.univ))
        (Ideal.ofBits .f32 0x7149F2CA#32) (Dst X k x)) Finset.univ = least (others (Dst X k)) := by
    rw [fold_first (Dst X k) _ rfl, fold_least]
    congr 1; funext x
    rw [select_ofNat_eq]; rfl
  refine Eq.trans ?_ (select_half k _ _)
  rw [← e]

theorem pay19_at (X : Vec Ideal S1x512x128 .f32) (i : Fin 512) (a : Fin 4) (l : Fin 128) :
    k0_pay19 X (ix4 0 i a l) = k0_pay18 X (ix2 i ⟨a.val * 128 + l.val, by omega⟩) := by
  pointwise [k0_pay19]

/-! ## The four clouds' values are the first one's of their own block -/

theorem keep1 (X : Vec Ideal S1x512x128 .f32) :
    k0_pay27 io0 io1 (k0_pay23 X) (k0_pay24 X) (k0_pay25 io0 io1 X) = k0_pay19 X := rfl
theorem keep2 (X : Vec Ideal S1x512x128 .f32) : k0_pay30 io0 io1 X = k0_pay19 X := rfl
theorem keep3 (X : Vec Ideal S1x512x128 .f32) : k0_pay40 io0 io1 (k0_pay37 io0 io1 X) (k0_pay38 X) = k0_pay19 X := rfl
theorem near1 (X : Vec Ideal S1x512x128 .f32) :
    k0_pay28 io0 io1 (k0_pay23 X) (k0_pay24 X) (k0_pay25 io0 io1 X) = k0_pay21 io1 (k0_pay18 X) (k0_pay20 X) := rfl
theorem near2 (X : Vec Ideal S1x512x128 .f32) :
    k0_pay34 io1 (k0_pay29 io0 io1 X) (k0_pay31 io0 io1 X) (k0_pay32 io0 io1 X) k0_pay33
      = k0_pay21 io1 (k0_pay18 X) (k0_pay20 X) := rfl
theorem near3 (X : Vec Ideal S1x512x128 .f32) :
    k0_pay41 io0 io1 (k0_pay37 io0 io1 X) (k0_pay38 X) = k0_pay21 io1 (k0_pay18 X) (k0_pay20 X) := rfl

end Cert.Proof.KernelIdeal

end
-- ==== Proof.LoopRead.lean ====
/-
  The values of the spanning tree's loop for one cloud, read on the row of 512 values the four lines of 128 make.
-/
module

public import proofs.«01_k».proof.Proof.PayRead

@[expose] public section

noncomputable section

namespace Cert.Proof.KernelIdeal

open Cert.KernelIdeal Cert.KernelIdeal.Gen
open Idealize.ShloMosaic Cert.Proof.Cloud

/-- The point at line `a`, column `l`. -/
abbrev at4 (a : Fin 4) (l : Fin 128) : Fin 512 := ⟨a.val * 128 + l.val, by omega⟩

/-- The row four lines of 128 hold. -/
def IsRow (r : FVec Ideal S4x128 .f32) (f : Row) : Prop := ∀ a l, r (ix2 a l) = f (at4 a l)

/-- Points by line and column. -/
def lines : Fin 4 × Fin 128 ≃ Fin 512 where
  toFun x := at4 x.1 x.2
  invFun k := (⟨k.val / 128, by omega⟩, ⟨k.val % 128, by omega⟩)
  left_inv x := by
    rcases x with ⟨a, l⟩
    refine Prod.ext (Fin.ext ?_) (Fin.ext ?_) <;> simp only [at4] <;> omega
  right_inv k := Fin.ext (by simp only [at4]; omega)

/-- A fold over lines and columns is one over the points. -/
theorem fold_lines {α : Type} (op : α → α → α) [Std.Commutative op] [Std.Associative op] (b : α) (g : Fin 512 → α) :
    Finset.fold op b (fun x : Fin 4 × Fin 128 => g (at4 x.1 x.2)) Finset.univ = Finset.fold op b g Finset.univ := by
  have h := Finset.fold_map (op := op) (b := b) (f := g) (s := Finset.univ) (g := lines.toEmbedding)
  rw [Finset.map_univ_equiv] at h
  exact h.symm

theorem col_at (a : Fin 4) (l : Fin 128) : k0_pay42 (ix2 a l) = BitVec.ofNat 32 (at4 a l).val := by
  pointwise [k0_pay42]
  show 128#32 * BitVec.ofNat 32 a.val + BitVec.ofNat 32 l.val = _
  apply BitVec.eq_of_toNat_eq
  simp only [BitVec.toNat_add, BitVec.toNat_mul, BitVec.toNat_ofNat]
  omega

theorem pay2_at {r : FVec Ideal S4x128 .f32} {f : Row} (h : IsRow r f) : k0_pay2 r = least f := by
  pointwise [k0_pay2]
  rw [← fold_least, ← fold_lines]
  exact congrArg (fun g => Finset.fold min _ g Finset.univ) (funext fun x => h x.1 x.2)

theorem pay3_at {r : FVec Ideal S4x128 .f32} {f : Row} (h : IsRow r f) :
    extractAt ![0, 0, 0] (k0_pay3 k0_pay42 r) inpos_S1x1x1_p0_0_0 = BitVec.ofNat 32 (first f).val := by
  pointwise [k0_pay3]
  rw [pay2_at h, ← fold_first f _ rfl, ← fold_lines]
  exact congrArg (fun g => Finset.fold IntOp.minsi _ g Finset.univ) (funext fun x => by rw [h x.1 x.2, col_at])

theorem andi_self (k : Fin 512) : Scalar.andi (BitVec.ofNat 32 k.val) 511#32 = BitVec.ofNat 32 k.val := by
  apply BitVec.eq_of_toNat_eq
  show ((BitVec.ofNat 32 k.val) &&& 511#32).toNat = _
  rw [BitVec.toNat_and, BitVec.toNat_ofNat, show (511#32).toNat = 2 ^ 9 - 1 from rfl, Nat.and_two_pow_sub_one_eq_mod]
  omega

theorem pay4_at {r : FVec Ideal S4x128 .f32} {f : Row} (D : Fin 512 → Row) (h : IsRow r f) (w : Vec Ideal S1x1x4x128 .f32)
    (hw : ∀ a l, w (ix4 0 0 a l) = D (first f) (at4 a l)) :
    IsRow (k0_pay4 k0_pay42 (Scalar.ofBits .f32 0x7F7FFFFF#32) r w) (take most D f) := by
  intro a l
  have e : k0_pay3 k0_pay42 r (ix3 0 0 0) = BitVec.ofNat 32 (first f).val := by
    rw [← pay3_at h]; pointwise []
  pointwise [k0_pay4]
  rw [e, andi_self, col_at, select_ofNat_eq, h a l, hw a l]
  rfl

/-! ## The other clouds' values are the first one's -/

theorem least1 (r : FVec Ideal S4x128 .f32) : k0_pay6 r = k0_pay2 r := rfl
theorem least2 (r : FVec Ideal S4x128 .f32) : k0_pay12 r = k0_pay2 r := rfl
theorem least3 (r : FVec Ideal S4x128 .f32) : k0_pay16 r = k0_pay2 r := rfl
theorem first1 (v : IVec S4x128 32) (r : FVec Ideal S4x128 .f32) : k0_pay7 v r = k0_pay3 v r := rfl
theorem first2 (v : IVec S4x128 32) (r : FVec Ideal S4x128 .f32) : k0_pay13 v r = k0_pay3 v r := rfl
theorem first3 (v : IVec S4x128 32) (r : FVec Ideal S4x128 .f32) : k0_pay17 v r = k0_pay3 v r := rfl
theorem take1 (v : IVec S4x128 32) (t : Ideal .f32) (r : FVec Ideal S4x128 .f32) (w : Vec Ideal S1x1x4x128 .f32) :
    k0_pay10 t r (k0_pay8 w) (k0_pay9 v r) = k0_pay4 v t r w := rfl
theorem take2 (v : IVec S4x128 32) (t : Ideal .f32) (r : FVec Ideal S4x128 .f32) (w : Vec Ideal S1x1x4x128 .f32) :
    k0_pay14 v t r w = k0_pay4 v t r w := rfl
theorem take3 (v : IVec S4x128 32) (r : FVec Ideal S4x128 .f32) (w : Vec Ideal S1x1x4x128 .f32) :
    k0_pay47 v r (Scalar.andi (extractAt ![0, 0, 0] (k0_pay17 v r) inpos_S1x1x1_p0_0_0) 511#32) w
      = k0_pay4 v (Scalar.ofBits .f32 0x7F7FFFFF#32) r w := rfl

theorem start_at {w : Vec Ideal S1x1x4x128 .f32} {f : Row} (hw : ∀ a l, w (ix4 0 0 a l) = f (at4 a l)) : IsRow (k0_pay43 w) f := by
  intro a l
  pointwise [k0_pay43]
  exact hw a l

end Cert.Proof.KernelIdeal

end
-- ==== Proof.TreeRead.lean ====
/-
  The spanning tree's loop over the extended reals: the carried lines are the rows of the tree's loop, the carried sums
  the sums of the squared least values.
-/
module

public import proofs.«01_k».proof.Proof.LoopIdeal
public import proofs.«01_k».proof.Proof.LoopRead
public import Idealize.ShloMosaic.PureOps.Ideal

@[expose] public section

noncomputable section

namespace Cert.Proof.KernelIdeal

open Cert.KernelIdeal Cert.KernelIdeal.Gen
open Idealize.ShloMosaic Cert.Proof.Cloud

/-- Scratch contents holding four clouds' distances. -/
def Holds (g : S4x512x4x128.Idx → EReal) (D : Fin 4 → Fin 512 → Row) : Prop :=
  ∀ b i a l, g (ix4 b i a l) = D b i (at4 a l)

/-- The sum of the squared least values of the first rows. -/
def squares (D : Fin 512 → Row) : ℕ → EReal
  | 0 => Ideal.ofBits .f32 0x00000000#32
  | k + 1 => squares D k + least (rows most D k) * least (rows most D k)

section

variable (c : Dev nD) (arg0 : Memref sig .tc .vmem S4x512x128 .f32) (harg0 : arg0.IsWhole) (arg1 : Memref sig .tc .smem S4 .f32) (harg1 : arg1.IsWhole)
  (arg2 : Memref sig .tc .vmem S4x512x4x128 .f32) (harg2 : arg2.IsWhole) (f2 : Bf (F := Ideal) c arg2)

/-- A load of one line of the scratch buffer. -/
theorem load_at {D : Fin 4 → Fin 512 → Row} (hf : Holds (arg2.view.read (Elt Ideal) f2) D) (off : Fin 4 → ℕ) (b : Fin 4) (j : Fin 512)
    (inb : ∀ a, off a + S1x1x4x128.size a ≤ S4x512x4x128.size a) (ho : off = ![b.val, j.val, 0, 0]) (a : Fin 4) (l : Fin 128) :
    arg2.view.readAt (Elt Ideal) (Rect.unit (s := S4x512x4x128) off S1x1x4x128.size inb).toLoadRect f2 (ix4 0 0 a l) = D b j (at4 a l) := by
  subst ho
  rw [← hf b j a l]
  refine congrArg (arg2.view.read (Elt Ideal) f2) (funext fun x => Fin.ext ?_)
  fin_cases x
  · show b.val + 1 * 0 = b.val; omega
  · show j.val + 1 * 0 = j.val; omega
  · show 0 + 1 * a.val = a.val; omega
  · show 0 + 1 * l.val = l.val; omega

theorem trip_eq (v254 : IVec S4x128 32) (t : Ideal .f32) (a4 a5 a6 a7 : FVec Ideal S4x128 .f32) (a8 a9 a10 a11 : Ideal .f32) :
    (trip c arg0 harg0 arg1 harg1 arg2 harg2 v254 t f2 a4 a5 a6 a7 a8 a9 a10 a11).1
      = (k0_pay4 v254 t a4 (arg2.view.readAt (Elt Ideal) (Rect.unit (s := S4x512x4x128) (k0_off1 (extractAt ![0, 0, 0] (k0_pay3 v254 a4) inpos_S1x1x1_p0_0_0)) S1x1x4x128.size (k0_off1_inb _ (chk1 _))).toLoadRect f2),
         k0_pay4 v254 t a5 (arg2.view.readAt (Elt Ideal) (Rect.unit (s := S4x512x4x128) (k0_off2 (extractAt ![0, 0, 0] (k0_pay7 v254 a5) inpos_S1x1x1_p0_0_0)) S1x1x4x128.size (k0_off2_inb _ (chk2 _))).toLoadRect f2),
         k0_pay4 v254 t a6 (arg2.view.readAt (Elt Ideal) (Rect.unit (s := S4x512x4x128) (k0_off3 (extractAt ![0, 0, 0] (k0_pay13 v254 a6) inpos_S1x1x1_p0_0_0)) S1x1x4x128.size (k0_off3_inb _ (chk3 _))).toLoadRect f2),
         k0_pay4 v254 (Scalar.ofBits .f32 0x7F7FFFFF#32) a7 (arg2.view.readAt (Elt Ideal) (Rect.unit (s := S4x512x4x128) (k0_off4 (extractAt ![0, 0, 0] (k0_pay17 v254 a7) inpos_S1x1x1_p0_0_0)) S1x1x4x128.size (k0_off4_inb _ (chk4 _))).toLoadRect f2),
         k0_pay5 a4 a8, k0_pay5 a5 a9, k0_pay5 a6 a10, k0_pay5 a7 a11) := rfl

theorem off_eq {r : FVec Ideal S4x128 .f32} {f : Row} (h : IsRow r f) (b : ℕ) :
    (![b, (Scalar.indexCast (Scalar.andi (extractAt ![0, 0, 0] (k0_pay3 k0_pay42 r) inpos_S1x1x1_p0_0_0) 511#32)).toNat, 0, 0] : Fin 4 → ℕ)
      = ![b, (first f).val, 0, 0] := by
  rw [pay3_at h, andi_self]
  have : (Scalar.indexCast (BitVec.ofNat 32 (first f).val)).toNat = (first f).val := by
    show (BitVec.ofNat 32 (first f).val).toNat = _
    rw [BitVec.toNat_ofNat, Nat.mod_eq_of_lt (by omega)]
  rw [this]

theorem pay5_at {r : FVec Ideal S4x128 .f32} {f : Row} (h : IsRow r f) (s : Ideal .f32) : k0_pay5 r s = (s + least f * least f : EReal) := by
  show (s + k0_pay2 r * k0_pay2 r : EReal) = _
  rw [pay2_at h]

/-- The carried value before trip `k`. -/
theorem iter_at {D : Fin 4 → Fin 512 → Row} (hf : Holds (arg2.view.read (Elt Ideal) f2) D) (init : Carry Ideal)
    (h4 : IsRow init.1 (D 0 0)) (h5 : IsRow init.2.1 (D 1 0)) (h6 : IsRow init.2.2.1 (D 2 0)) (h7 : IsRow init.2.2.2.1 (D 3 0))
    (hs : init.2.2.2.2 = (Scalar.ofBits .f32 0x00000000#32, Scalar.ofBits .f32 0x00000000#32, Scalar.ofBits .f32 0x00000000#32, Scalar.ofBits .f32 0x00000000#32)) (k : ℕ) :
    IsRow (iter c arg0 harg0 arg1 harg1 arg2 harg2 k0_pay42 (Scalar.ofBits .f32 0x7F7FFFFF#32) f2 init k).1 (rows most (D 0) k)
      ∧ IsRow (iter c arg0 harg0 arg1 harg1 arg2 harg2 k0_pay42 (Scalar.ofBits .f32 0x7F7FFFFF#32) f2 init k).2.1 (rows most (D 1) k)
      ∧ IsRow (iter c arg0 harg0 arg1 harg1 arg2 harg2 k0_pay42 (Scalar.ofBits .f32 0x7F7FFFFF#32) f2 init k).2.2.1 (rows most (D 2) k)
      ∧ IsRow (iter c arg0 harg0 arg1 harg1 arg2 harg2 k0_pay42 (Scalar.ofBits .f32 0x7F7FFFFF#32) f2 init k).2.2.2.1 (rows most (D 3) k)
      ∧ (iter c arg0 harg0 arg1 harg1 arg2 harg2 k0_pay42 (Scalar.ofBits .f32 0x7F7FFFFF#32) f2 init k).2.2.2.2
          = (squares (D 0) k, squares (D 1) k, squares (D 2) k, squares (D 3) k) := by
  induction k with
  | zero => exact ⟨h4, h5, h6, h7, hs⟩
  | succ k ih =>
    obtain ⟨i4, i5, i6, i7, is⟩ := ih
    rw [iter, trip_eq]
    refine ⟨?_, ?_, ?_, ?_, ?_⟩
    · exact pay4_at (D 0) i4 _ fun a l => load_at c arg2 f2 hf _ 0 _ _ (off_eq i4 0) a l
    · exact pay4_at (D 1) i5 _ fun a l => load_at c arg2 f2 hf _ 1 _ _ (off_eq i5 1) a l
    · exact pay4_at (D 2) i6 _ fun a l => load_at c arg2 f2 hf _ 2 _ _ (off_eq i6 2) a l
    · exact pay4_at (D 3) i7 _ fun a l => load_at c arg2 f2 hf _ 3 _ _ (off_eq i7 3) a l
    · show (_, _, _, _) = _
      rw [pay5_at i4, pay5_at i5, pay5_at i6, pay5_at i7, is]
      rfl

end

end Cert.Proof.KernelIdeal

end
-- ==== Proof.Loss.lean ====
/-
  The loss of two clouds as one sum over the first cloud's tree lengths and one over its nearest distances.
-/
module

public import proofs.«01_k».proof.Proof.Least
public import proofs.«01_k».proof.Proof.Sorting

@[expose] public section

noncomputable section

namespace Cert.Proof.Cloud

open Idealize.ShloMosaic

/-- A real length no larger than `big`. -/
def Length (a : EReal) : Prop := ∃ r : ℝ, a = r ∧ 0 ≤ r ∧ r ≤ bigR

theorem length_zero : Length 0 := ⟨0, rfl, le_refl _, by have := bigR_ge; linarith⟩

theorem length_big : Length big := ⟨bigR, big_eq, by have := bigR_ge; linarith, le_refl _⟩

theorem length_dist (x : Pts) (i j : Fin 512) : Length (dist (unit x) i j) := by
  by_cases h : i = j
  · subst h; rw [dist_self]; exact length_big
  · obtain ⟨r, h, h0, h1⟩ := dist_off x h
    exact ⟨r, h, h0, h1.le⟩

theorem Length.least {f : Row} (h : ∀ i, Length (f i)) : Length (least f) := by
  obtain ⟨i, hi⟩ := exists_least f
  exact hi ▸ h i

theorem Length.others {f : Row} (h : ∀ i, Length (f i)) (i : Fin 512) : Length (others f i) := by
  unfold Cloud.others
  split
  · exact length_big
  · exact h i

theorem Length.le_big {a : EReal} (h : Length a) : a ≤ big := by
  obtain ⟨r, rfl, -, h1⟩ := h
  rw [big_eq]; exact_mod_cast h1

theorem Length.rows {D : Fin 512 → Row} (hD : ∀ i j, Length (D i j)) : ∀ (k : ℕ) (i : Fin 512), Length (rows big D k i)
  | 0, i => hD 0 i
  | k + 1, i => by
    show Length (if i = first (Cloud.rows big D k) then big else min (Cloud.rows big D k i) (D (first (Cloud.rows big D k)) i))
    split
    · exact length_big
    · rcases min_choice (Cloud.rows big D k i) (D (first (Cloud.rows big D k)) i) with h | h <;> rw [h]
      · exact Length.rows hD k i
      · exact hD _ _

/-- The least finite value. -/
def low : EReal := Ideal.ofBits .f32 0xFF7FFFFF#32

theorem low_le : low ≤ 0 := by
  have : low = ((-(16777215 * 2 ^ 104) : ℝ) : EReal) := by
    unfold low
    simp [Ideal.ofBits, Ideal.ieee, -EReal.coe_mul]
  rw [this, ← EReal.coe_zero, EReal.coe_le_coe_iff]; norm_num

/-- A value kept between the least and the largest finite one. -/
def clamped (a : EReal) : EReal := min (max a low) most

theorem Length.clamped {a : EReal} (h : Length a) : clamped a = a := by
  have hb := h.le_big
  obtain ⟨r, rfl, h0, -⟩ := h
  have h0' : (0 : EReal) ≤ (r : EReal) := by exact_mod_cast h0
  unfold Cloud.clamped
  rw [max_eq_left (low_le.trans h0'), min_eq_left (hb.trans big_le_most)]

/-- One place of the loss: birth, death, and the other cloud's birth. -/
def cell (a a' y : EReal) : EReal :=
  if max y (-y) < Ideal.ofBits .f32 0x7F800000#32 then 1 - (clamped a' - clamped a) * (clamped a' - clamped a)
  else (clamped a' - clamped a) * (clamped a' - clamped a)

theorem cell_in {a a' y : EReal} (ha : Length a) (ha' : Length a') (hy : Length y) : cell a a' y = 1 - (a' - a) * (a' - a) := by
  unfold cell
  rw [ha.clamped, ha'.clamped, if_pos]
  obtain ⟨r, rfl, -, -⟩ := hy
  rw [inf_bits]
  exact max_lt (EReal.coe_lt_top r) (by rw [← EReal.coe_neg]; exact EReal.coe_lt_top (-r))

theorem nan_bits : Ideal.ofBits .f32 0x7FC00000#32 = ⊥ := by
  simp [Ideal.ofBits, Ideal.ieee]

theorem cell_out : cell 0 0 (Ideal.ofBits .f32 0x7FC00000#32) = 0 := by
  unfold cell
  rw [length_zero.clamped, if_neg]
  · simp
  · rw [inf_bits, nan_bits]; simp

/-- The loss over the tree's lengths. -/
theorem tree_sum (w : Fin 511 → ℝ) (hw : ∀ k, Length (w k)) (a a' y : Fin 512 → EReal)
    (ha : ∀ k, a k = 0) (ha' : ∀ k : Fin 512, a' k = if h : k.val < 511 then (w ⟨k.val, h⟩ : EReal) else 0)
    (hy : ∀ k : Fin 512, y k = if k.val < 511 then 0 else Ideal.ofBits .f32 0x7FC00000#32) :
    ∑ k, cell (a k) (a' k) (y k) = ((511 - ∑ k, w k * w k : ℝ) : EReal) := by
  rw [Fin.sum_univ_castSucc]
  have hlast : cell (a (Fin.last 511)) (a' (Fin.last 511)) (y (Fin.last 511)) = 0 := by
    rw [ha, ha', hy, dif_neg (by simp), if_neg (by simp)]; exact cell_out
  have hk : ∀ k : Fin 511, cell (a k.castSucc) (a' k.castSucc) (y k.castSucc) = ((1 - w k * w k : ℝ) : EReal) := fun k => by
    rw [ha, ha', hy, dif_pos (by simp), if_pos (by simp)]
    refine (cell_in length_zero (hw _) length_zero).trans ?_
    rw [← EReal.coe_zero, ← EReal.coe_one, ← EReal.coe_sub, ← EReal.coe_mul, ← EReal.coe_sub]
    congr 1; simp
  rw [hlast, add_zero, Finset.sum_congr rfl fun k _ => hk k, ← coe_sum]
  congr 1
  rw [Finset.sum_sub_distrib]; simp

theorem count_half : ∑ k : Fin 512, (if k.val < 256 then (1 : ℝ) else 0) = 256 := by
  rw [Finset.sum_boole]
  have : (Finset.univ.filter fun k : Fin 512 => k.val < 256).card = 256 := by decide +kernel
  rw [this]; norm_num

/-- The loss over the first half of the points. -/
theorem near_sum (m n : Fin 512 → ℝ) (hm : ∀ k, Length (m k)) (hn : ∀ k, Length (n k)) (a a' y my : Fin 512 → EReal) (hmy : ∀ k, Length (my k))
    (ha : ∀ k : Fin 512, a k = if k.val < 256 then (m k : EReal) else 0) (ha' : ∀ k : Fin 512, a' k = if k.val < 256 then (n k : EReal) else 0)
    (hy : ∀ k : Fin 512, y k = if k.val < 256 then my k else Ideal.ofBits .f32 0x7FC00000#32) :
    ∑ k, cell (a k) (a' k) (y k) = ((256 - ∑ k : Fin 512, (if k.val < 256 then (n k - m k) * (n k - m k) else 0) : ℝ) : EReal) := by
  have hk : ∀ k : Fin 512, cell (a k) (a' k) (y k)
      = (((if k.val < 256 then (1 : ℝ) else 0) - (if k.val < 256 then (n k - m k) * (n k - m k) else 0) : ℝ) : EReal) := fun k => by
    rw [ha, ha', hy]
    by_cases h : k.val < 256
    · simp only [if_pos h]
      refine (cell_in (hm k) (hn k) (hmy k)).trans ?_
      rw [← EReal.coe_one, ← EReal.coe_sub, ← EReal.coe_mul, ← EReal.coe_sub]
    · simp only [if_neg h]
      rw [cell_out]; simp
  rw [Finset.sum_congr rfl fun k _ => hk k, ← coe_sum, Finset.sum_sub_distrib, count_half]

/-- The score of a cloud's distances: the number of lengths, less the squares of the tree's lengths, less the squares of
    the differences of the two nearest distances over the first half of the points. -/
def score (top : EReal) (D : Fin 512 → Row) : EReal :=
  (Ideal.ofBits .f32 0x443FC000#32 - ∑ k : Fin 511, least (rows top D k.val) * least (rows top D k.val))
    - ∑ k : Fin 512, if k.val < 256 then (least (others (D k)) - least (D k)) * (least (others (D k)) - least (D k)) else 0

theorem count_bits : Ideal.ofBits .f32 0x443FC000#32 = ((767 : ℝ) : EReal) := by
  simp [Ideal.ofBits, Ideal.ieee, -EReal.coe_mul]
  norm_num

/-- The two sums of the loss make the score. -/
theorem cells_score (D : Fin 512 → Row) (hD : ∀ i j, Length (D i j)) (my : Fin 512 → EReal) (hmy : ∀ k, Length (my k))
    (U : Fin 511 → EReal) (hU : ∀ k, U k = least (rows big D (place (fun t : Fin 511 => least (rows big D t.val)) k).val))
    (a a' y b b' z : Fin 512 → EReal)
    (ha : ∀ k, a k = 0) (ha' : ∀ k : Fin 512, a' k = if h : k.val < 511 then U ⟨k.val, h⟩ else 0)
    (hy : ∀ k : Fin 512, y k = if k.val < 511 then 0 else Ideal.ofBits .f32 0x7FC00000#32)
    (hb : ∀ k : Fin 512, b k = if k.val < 256 then least (D k) else 0)
    (hb' : ∀ k : Fin 512, b' k = if k.val < 256 then least (others (D k)) else 0)
    (hz : ∀ k : Fin 512, z k = if k.val < 256 then my k else Ideal.ofBits .f32 0x7FC00000#32) :
    (∑ k, cell (a k) (a' k) (y k)) + ∑ k, cell (b k) (b' k) (z k) = score big D := by
  have hw : ∀ k, Length (least (rows big D k)) := fun k => Length.least (Length.rows hD k)
  have hm : ∀ k, Length (least (D k)) := fun k => Length.least (hD k)
  have hn : ∀ k, Length (least (others (D k))) := fun k => Length.least (Length.others (hD k))
  choose w hw' hw0 hw1 using hw
  choose m hm' hm0 hm1 using hm
  choose n hn' hn0 hn1 using hn
  rw [tree_sum (fun k => w (place (fun t : Fin 511 => least (rows big D t.val)) k).val) (fun k => ⟨_, rfl, hw0 _, hw1 _⟩) a a' y ha
      (fun k => by rw [ha']; split <;> simp only [hU, hw']) hy,
    near_sum m n (fun k => ⟨_, rfl, hm0 k, hm1 k⟩) (fun k => ⟨_, rfl, hn0 k, hn1 k⟩) b b' z my hmy
      (fun k => by rw [hb, hm']) (fun k => by rw [hb', hn']) hz]
  have hs : ∑ k, w (place (fun t : Fin 511 => least (rows big D t.val)) k).val * w (place (fun t : Fin 511 => least (rows big D t.val)) k).val
      = ∑ k : Fin 511, w k.val * w k.val := (place_bijective _).sum_comp fun k : Fin 511 => w k.val * w k.val
  rw [hs]
  unfold score
  have e1 : ∑ k : Fin 511, least (rows big D k.val) * least (rows big D k.val) = ((∑ k : Fin 511, w k.val * w k.val : ℝ) : EReal) := by
    rw [coe_sum]; exact Finset.sum_congr rfl fun k _ => by rw [hw', EReal.coe_mul]
  have e2 : (∑ k : Fin 512, if k.val < 256 then (least (others (D k)) - least (D k)) * (least (others (D k)) - least (D k)) else 0)
      = ((∑ k : Fin 512, (if k.val < 256 then (n k - m k) * (n k - m k) else 0) : ℝ) : EReal) := by
    rw [coe_sum]
    refine Finset.sum_congr rfl fun k _ => ?_
    split
    · rw [hn', hm', ← EReal.coe_sub, ← EReal.coe_mul]
    · rfl
  rw [e1, e2, count_bits, ← EReal.coe_sub, ← EReal.coe_sub, ← EReal.coe_add]
  congr 1; ring

end Cert.Proof.Cloud

end
-- ==== Proof.LeavesRead.lean ====
/-
  What the kernel's body leaves in its result block over the extended reals: each cloud's score.
-/
module

public import proofs.«01_k».proof.Proof.KernelIdealRun
public import proofs.«01_k».proof.Proof.TreeRead
public import proofs.«01_k».proof.Proof.Loss
public import Idealize.ShloMosaic.Lib.CellWrites
public import Idealize.ShloMosaic.Lib.WritesUnit

@[expose] public section

noncomputable section

namespace Cert.Proof.KernelIdeal

open Cert.KernelIdeal Cert.KernelIdeal.Gen
open Idealize.ShloMosaic Cert.Proof.Cloud

theorem squares_eq (D : Fin 512 → Row) (n : ℕ) : squares D n = ∑ k ∈ Finset.range n, least (rows most D k) * least (rows most D k) := by
  induction n with
  | zero => simp [squares, Ideal.ofBits, Ideal.ieee]
  | succ n ih => rw [squares, ih, Finset.sum_range_succ]

theorem score_eq (D : Fin 512 → Row) : (Ideal.ofBits .f32 0x443FC000#32 - squares D 511) - near D = score most D := by
  rw [squares_eq, Finset.sum_range]; rfl

section

variable {sig' : RefSig} {κ : Kind} {sp : Space}

/-- The block the store to cloud `b` leaves, and the clouds after it do not touch. -/
theorem block_at (v : View sig' κ sp S4x512x4x128 .f32) (f : v.ty.Contents (Elt Ideal)) (w0 w1 w2 w3 : Vec Ideal S1x512x4x128 .f32) (D : Fin 4 → Fin 512 → Row)
    (i0 i1 i2 i3)
    (h0 : ∀ i a l, w0 (ix4 0 i a l) = D 0 i (at4 a l)) (h1 : ∀ i a l, w1 (ix4 0 i a l) = D 1 i (at4 a l))
    (h2 : ∀ i a l, w2 (ix4 0 i a l) = D 2 i (at4 a l)) (h3 : ∀ i a l, w3 (ix4 0 i a l) = D 3 i (at4 a l)) :
    Holds (v.read (Elt Ideal) (v.writes (Elt Ideal) f
      [⟨Rect.unit (s := S4x512x4x128) ![3, 0, 0, 0] S1x512x4x128.size i3, w3⟩, ⟨Rect.unit (s := S4x512x4x128) ![2, 0, 0, 0] S1x512x4x128.size i2, w2⟩,
       ⟨Rect.unit (s := S4x512x4x128) ![1, 0, 0, 0] S1x512x4x128.size i1, w1⟩, ⟨Rect.unit (s := S4x512x4x128) ![0, 0, 0, 0] S1x512x4x128.size i0, w0⟩])) D := by
  intro b i a l
  have hit : ∀ (o : ℕ) (inb) (w : Vec Ideal S1x512x4x128 .f32) (L) (b : Fin 4), o = b.val →
      v.read (Elt Ideal) (v.writes (Elt Ideal) f (⟨Rect.unit (s := S4x512x4x128) ![o, 0, 0, 0] S1x512x4x128.size inb, w⟩ :: L)) (ix4 b i a l) = w (ix4 0 i a l) :=
    fun o inb w L b ho => View.read_writes_cons_unit_of_mem (off' := ![o, 0, 0, 0]) v f inb w L (ix4 b i a l) (ix4 0 i a l) rfl fun x => by
      subst ho
      fin_cases x
      · show b.val = b.val + 0; omega
      · show i.val = 0 + i.val; omega
      · show a.val = 0 + a.val; omega
      · show l.val = 0 + l.val; omega
  have miss : ∀ (o : ℕ) (inb) (w : Vec Ideal S1x512x4x128 .f32) (L) (b : Fin 4), b.val < o ∨ o + 1 ≤ b.val →
      v.read (Elt Ideal) (v.writes (Elt Ideal) f (⟨Rect.unit (s := S4x512x4x128) ![o, 0, 0, 0] S1x512x4x128.size inb, w⟩ :: L)) (ix4 b i a l)
        = v.read (Elt Ideal) (v.writes (Elt Ideal) f L) (ix4 b i a l) :=
    fun o inb w L b ho => View.read_writes_cons_unit_of_not_mem (off' := ![o, 0, 0, 0]) v f inb w L (ix4 b i a l) rfl 0 ho
  fin_cases b
  · exact (miss 3 _ _ _ 0 (by decide)).trans ((miss 2 _ _ _ 0 (by decide)).trans ((miss 1 _ _ _ 0 (by decide)).trans ((hit 0 _ _ _ 0 rfl).trans (h0 i a l))))
  · exact (miss 3 _ _ _ 1 (by decide)).trans ((miss 2 _ _ _ 1 (by decide)).trans ((hit 1 _ _ _ 1 rfl).trans (h1 i a l)))
  · exact (miss 3 _ _ _ 2 (by decide)).trans ((hit 2 _ _ _ 2 rfl).trans (h2 i a l))
  · exact (hit 3 _ _ _ 3 rfl).trans (h3 i a l)

/-- Four words stored one by one, read back. -/
theorem words_at (v : View sig' κ sp S4 .f32) (f : v.ty.Contents (Elt Ideal)) (p0 p1 p2 p3 : Ideal .f32) (g : Fin 4 → EReal)
    (i0 i1 i2 i3) (h0 : p0 = g 0) (h1 : p1 = g 1) (h2 : p2 = g 2) (h3 : p3 = g 3) (b : Fin 4) :
    v.read (Elt Ideal) (v.writes (Elt Ideal) f
      [⟨Rect.unit (s := S4) ![3] S1.size i3, fun _ => p3⟩, ⟨Rect.unit (s := S4) ![2] S1.size i2, fun _ => p2⟩,
       ⟨Rect.unit (s := S4) ![1] S1.size i1, fun _ => p1⟩, ⟨Rect.unit (s := S4) ![0] S1.size i0, fun _ => p0⟩]) (ix1 b) = g b := by
  have hit : ∀ (o : ℕ) (inb) (p : Ideal .f32) (L) (b : Fin 4), b.val = o →
      v.read (Elt Ideal) (v.writes (Elt Ideal) f (⟨Rect.unit (s := S4) ![o] S1.size inb, fun _ => p⟩ :: L)) (ix1 b) = p :=
    fun o inb p L b ho => (View.read_writes_cons_cell v f inb p L (ix1 b)).trans (if_pos ho)
  have miss : ∀ (o : ℕ) (inb) (p : Ideal .f32) (L) (b : Fin 4), b.val ≠ o →
      v.read (Elt Ideal) (v.writes (Elt Ideal) f (⟨Rect.unit (s := S4) ![o] S1.size inb, fun _ => p⟩ :: L)) (ix1 b)
        = v.read (Elt Ideal) (v.writes (Elt Ideal) f L) (ix1 b) :=
    fun o inb p L b ho => (View.read_writes_cons_cell v f inb p L (ix1 b)).trans (if_neg ho)
  fin_cases b
  · exact (miss 3 _ _ _ 0 (by decide)).trans ((miss 2 _ _ _ 0 (by decide)).trans ((miss 1 _ _ _ 0 (by decide)).trans ((hit 0 _ _ _ 0 rfl).trans h0)))
  · exact (miss 3 _ _ _ 1 (by decide)).trans ((miss 2 _ _ _ 1 (by decide)).trans ((hit 1 _ _ _ 1 rfl).trans h1))
  · exact (miss 3 _ _ _ 2 (by decide)).trans ((hit 2 _ _ _ 2 rfl).trans h2)
  · exact (hit 3 _ _ _ 3 rfl).trans h3

end

section

variable (c : Dev nD) (M0 : Memref sig .tc .vmem S4x512x128 .f32) (h0 : M0.IsWhole) (M1 : Memref sig .tc .smem S4 .f32) (h1 : M1.IsWhole)
    (M2 : Memref sig .tc .vmem S4x512x4x128 .f32) (h2 : M2.IsWhole) (x0 : Vec Ideal S4x512x128 .f32)

/-- One cloud of the input block. -/
def cloud (x : Vec Ideal S4x512x128 .f32) (b : Fin 4) : Pts := fun n k => x (ix3 b n k)

/-- The block a load of one cloud gives. -/
def part (b : ℕ) (inb : ∀ a, (![b, 0, 0] : Fin 3 → ℕ) a + S1x512x128.size a ≤ S4x512x128.size a) : Vec Ideal S1x512x128 .f32 :=
  M0.view.readAt (Elt Ideal) (Rect.unit (s := S4x512x128) ![b, 0, 0] S1x512x128.size inb).toLoadRect (h0.unread x0)

theorem part_at (b : Fin 4) (inb) : Dst (part M0 h0 x0 b.val inb) = dist (unit (cloud x0 b)) := by
  have e : pts (part M0 h0 x0 b.val inb) = cloud x0 b := by
    funext n k
    have hr := h0.read_unread x0
    show M0.view.read (Elt Ideal) (h0.unread x0) _ = x0 (ix3 b n k)
    rw [hr]
    refine congrArg x0 (funext fun x => Fin.ext ?_)
    fin_cases x
    · show b.val + 1 * 0 = b.val; omega
    · show 0 + 1 * n.val = n.val; omega
    · show 0 + 1 * k.val = k.val; omega
  unfold Dst; rw [e]

/-- The scratch buffer's contents after the four stores. -/
abbrev kept : List (View.Piece (Elt Ideal) S4x512x4x128 .f32) :=
  [⟨Rect.unit (s := S4x512x4x128) ![3, 0, 0, 0] S1x512x4x128.size inb_S4x512x4x128_S1x512x4x128_3_0_0_0, k0_pay19 (part M0 h0 x0 3 inb_S4x512x128_S1x512x128_3_0_0)⟩,
   ⟨Rect.unit (s := S4x512x4x128) ![2, 0, 0, 0] S1x512x4x128.size inb_S4x512x4x128_S1x512x4x128_2_0_0_0, k0_pay19 (part M0 h0 x0 2 inb_S4x512x128_S1x512x128_2_0_0)⟩,
   ⟨Rect.unit (s := S4x512x4x128) ![1, 0, 0, 0] S1x512x4x128.size inb_S4x512x4x128_S1x512x4x128_1_0_0_0, k0_pay19 (part M0 h0 x0 1 inb_S4x512x128_S1x512x128_1_0_0)⟩,
   ⟨Rect.unit (s := S4x512x4x128) ![0, 0, 0, 0] S1x512x4x128.size inb_S4x512x4x128_S1x512x4x128_0_0_0_0, k0_pay19 (part M0 h0 x0 0 inb_S4x512x128_S1x512x128_0_0_0)⟩]

abbrev held : Bf (F := Ideal) c M2 := M2.view.writes (Elt Ideal) M2.view.junk (kept M0 h0 x0)

/-- The four clouds' distances. -/
abbrev D4 (b : Fin 4) : Fin 512 → Row := dist (unit (cloud x0 b))

theorem held_at : Holds (M2.view.read (Elt Ideal) (held c M0 h0 M2 x0)) (D4 x0) := by
  refine block_at _ _ _ _ _ _ (D4 x0) _ _ _ _ ?_ ?_ ?_ ?_ <;> intro i a l <;> rw [pay19_at, pay18_at]
  · exact congrFun (congrFun (part_at M0 h0 x0 0 _) i) _
  · exact congrFun (congrFun (part_at M0 h0 x0 1 _) i) _
  · exact congrFun (congrFun (part_at M0 h0 x0 2 _) i) _
  · exact congrFun (congrFun (part_at M0 h0 x0 3 _) i) _

/-- The carried value before the loop. -/
abbrev start : Carry Ideal :=
  (k0_pay43 (M2.view.readCov (kept M0 h0 x0) (Rect.unit (s := S4x512x4x128) ![0, 0, 0, 0] S1x1x4x128.size inb_S4x512x4x128_S1x1x4x128_0_0_0_0).toLoadRect),
   k0_pay43 (M2.view.readCov (kept M0 h0 x0) (Rect.unit (s := S4x512x4x128) ![1, 0, 0, 0] S1x1x4x128.size inb_S4x512x4x128_S1x1x4x128_1_0_0_0).toLoadRect),
   k0_pay43 (M2.view.readCov (kept M0 h0 x0) (Rect.unit (s := S4x512x4x128) ![2, 0, 0, 0] S1x1x4x128.size inb_S4x512x4x128_S1x1x4x128_2_0_0_0).toLoadRect),
   k0_pay43 (M2.view.readCov (kept M0 h0 x0) (Rect.unit (s := S4x512x4x128) ![3, 0, 0, 0] S1x1x4x128.size inb_S4x512x4x128_S1x1x4x128_3_0_0_0).toLoadRect),
   Scalar.ofBits .f32 0x00000000#32, Scalar.ofBits .f32 0x00000000#32, Scalar.ofBits .f32 0x00000000#32, Scalar.ofBits .f32 0x00000000#32)

/-- The carried value after the loop. -/
abbrev final : Carry Ideal :=
  iter c M0 h0 M1 h1 M2 h2 k0_pay42 (Scalar.ofBits .f32 0x7F7FFFFF#32) (held c M0 h0 M2 x0) (start M0 h0 M2 x0) 511

theorem final_at : (final c M0 h0 M1 h1 M2 h2 x0).2.2.2.2 = (squares (D4 x0 0) 511, squares (D4 x0 1) 511, squares (D4 x0 2) 511, squares (D4 x0 3) 511) :=
  (iter_at c M0 h0 M1 h1 M2 h2 _ (held_at c M0 h0 M2 x0) (start M0 h0 M2 x0)
    (start_at fun a l => load_at c M2 _ (held_at c M0 h0 M2 x0) _ 0 0 _ rfl a l)
    (start_at fun a l => load_at c M2 _ (held_at c M0 h0 M2 x0) _ 1 0 _ rfl a l)
    (start_at fun a l => load_at c M2 _ (held_at c M0 h0 M2 x0) _ 2 0 _ rfl a l)
    (start_at fun a l => load_at c M2 _ (held_at c M0 h0 M2 x0) _ 3 0 _ rfl a l) rfl 511).2.2.2.2

/-- One cloud's sum of the squared differences of the two nearest distances, as the body computes it. -/
abbrev nn (b : ℕ) (inb : ∀ a, (![b, 0, 0] : Fin 3 → ℕ) a + S1x512x128.size a ≤ S4x512x128.size a) : Ideal .f32 := k0_pay21 io1 (k0_pay18 (part M0 h0 x0 b inb)) (k0_pay20 (part M0 h0 x0 b inb))

theorem nn_at (b : Fin 4) (inb) : nn M0 h0 x0 b.val inb = near (D4 x0 b) := by
  unfold nn; rw [pay21_at, part_at]

theorem run_eq : (kernelRun c M0 h0 M1 h1 M2 h2 x0).1
    = M1.view.read (Elt Ideal) (M1.view.writes (Elt Ideal) M1.view.junk
      [⟨Rect.unit (s := S4) ![3] S1.size inb_S4_S1_3, fun _ => k0_pay49 (nn M0 h0 x0 3 inb_S4x512x128_S1x512x128_3_0_0) (final c M0 h0 M1 h1 M2 h2 x0).2.2.2.2.2.2.2⟩,
       ⟨Rect.unit (s := S4) ![2] S1.size inb_S4_S1_2, fun _ => k0_pay49 (nn M0 h0 x0 2 inb_S4x512x128_S1x512x128_2_0_0) (final c M0 h0 M1 h1 M2 h2 x0).2.2.2.2.2.2.1⟩,
       ⟨Rect.unit (s := S4) ![1] S1.size inb_S4_S1_1, fun _ => k0_pay49 (nn M0 h0 x0 1 inb_S4x512x128_S1x512x128_1_0_0) (final c M0 h0 M1 h1 M2 h2 x0).2.2.2.2.2.1⟩,
       ⟨Rect.unit (s := S4) ![0] S1.size inb_S4_S1_0, fun _ => k0_pay49 (nn M0 h0 x0 0 inb_S4x512x128_S1x512x128_0_0_0) (final c M0 h0 M1 h1 M2 h2 x0).2.2.2.2.1⟩]) := rfl

theorem run_at (b : Fin 4) : (kernelRun c M0 h0 M1 h1 M2 h2 x0).1 (ix1 b) = score most (D4 x0 b) := by
  rw [run_eq]
  have hs : ∀ (b : Fin 4) (inb) (s : Ideal .f32), s = squares (D4 x0 b) 511 → k0_pay49 (nn M0 h0 x0 b.val inb) s = score most (D4 x0 b) := by
    intro b inb s h
    rw [nn_at, h]
    exact score_eq _
  refine words_at _ _ _ _ _ _ (fun b => score most (D4 x0 b)) _ _ _ _ ?_ ?_ ?_ ?_ b
  · exact hs 0 _ _ (congrArg (fun p => p.1) (final_at c M0 h0 M1 h1 M2 h2 x0))
  · exact hs 1 _ _ (congrArg (fun p => p.2.1) (final_at c M0 h0 M1 h1 M2 h2 x0))
  · exact hs 2 _ _ (congrArg (fun p => p.2.2.1) (final_at c M0 h0 M1 h1 M2 h2 x0))
  · exact hs 3 _ _ (congrArg (fun p => p.2.2.2) (final_at c M0 h0 M1 h1 M2 h2 x0))

end

end Cert.Proof.KernelIdeal

end
-- ==== Proof.RefLoop.lean ====
/-
  The reference's distances and its spanning tree's loop, read at an index: after `k` trips its row of cloud `b` is the
  loop's row after `k` steps, and place `t < k` of the list it fills is the least value of the row after `t` steps.
-/
module

public import proofs.«01_k».proof.Proof.Least
public import proofs.«01_k».proof.Proof.Gen.ReferenceIdeal.Step
public import Idealize.ShloMosaic.Lib.ValueIdxCore

@[expose] public section

noncomputable section

namespace Cert.Proof.Ref

open Cert.ReferenceIdeal Cert.ReferenceIdeal.Gen Cert.ReferenceIdeal.Step
open Idealize.ShloMosaic Cert.Proof.Cloud

/-- Cloud `b` of a batch of four. -/
def pts (X : Vec Ideal S4x512x128 .f32) (b : Fin 4) : Pts := fun n c => X (ix3 b n c)

theorem v7_at (X : Vec Ideal S4x512x128 .f32) (b : Fin 4) (n : Fin 512) (c : Fin 128) :
    A_main_v7 X (ix3 b n c) = unit (pts X b) n c := by
  pointwise [A_main_v7, A_main_v6, A_main_v5, A_main_v3, A_main_v2, A_main_v1, A_main_v0, K_main_v4, K_main_cst, K_main_cst_0]
  rfl

theorem v9_at (X : Vec Ideal S4x512x128 .f32) (b : Fin 4) (n : Fin 512) :
    A_main_v9 X (ix2 b n) = sq (unit (pts X b)) n := by
  pointwise [A_main_v9, A_main_v8, K_main_cst_1]
  simp only [v7_at]; rfl

theorem v16_at (X : Vec Ideal S4x512x128 .f32) (b : Fin 4) (i j : Fin 512) :
    A_main_v16 X (ix3 b i j) = gram (unit (pts X b)) i j := by
  pointwise [A_main_v16, A_main_v15]
  simp only [v7_at]; rfl

theorem select_ofNat_eq {α : Type} (i j : Fin 512) (u v : α) :
    Scalar.select (IntOp.cmpi .eq (BitVec.ofNat 32 i.val) (BitVec.ofNat 32 j.val)) u v = if i = j then u else v :=
  Cloud.select_ofNat_eq i j u v

theorem v31_at (X : Vec Ideal S4x512x128 .f32) (b : Fin 4) (i j : Fin 512) :
    A_main_v31 X (ix3 b i j) = dist (unit (pts X b)) i j := by
  pointwise [A_main_v31, A_main_v24, A_main_v23, A_main_v21, A_main_v19, A_main_v18, A_main_v14, A_main_v13, A_main_v12, A_main_v11, A_main_v10, K_main_v17, K_main_cst_2, K_main_v20, K_main_cst_3, K_main_v22, K_main_cst_4, K_main_call0_v1, K_main_call0_v2, K_main_call0_v0, K_main_cst_5, K_main_v30, K_main_v29, K_main_v28, K_main_v27, K_main_v26, K_main_v25]
  rw [select_ofNat_eq, v9_at, v9_at, v16_at]
  rfl

theorem v37_at (X : Vec Ideal S4x512x128 .f32) (b : Fin 4) (i : Fin 512) :
    A_main_v37 X (ix2 b i) = dist (unit (pts X b)) 0 i := by
  pointwise [A_main_v37, A_main_v36, A_main_v35, K_main_call1_v1, K_main_call1_v2, K_main_call1_v0, K_main_cst_6, K_main_v34, K_main_v33, K_main_v32, K_main_c]
  rw [v31_at]
  refine (select_ofNat_eq i 0 _ _).trans ?_
  by_cases h : i = 0
  · subst h; rw [if_pos rfl, dist_self]; rfl
  · rw [if_neg h]

/-! ## One trip -/

/-- The row of cloud `b` in a state. -/
def row (s : State Ideal) (b : Fin 4) : Row := fun i => s.main_v40_5 (ix2 b i)

variable (k : ℕ) (s : State Ideal)

theorem b13_at (b : Fin 4) : b13 k s (ix1 b) = BitVec.ofNat 32 (first (row s b)).val := by
  pointwise [b13, b12, b11, b10, b9, b8, b7, b6, b5, b4, b3, b2, K_main_v32]
  exact fold_first (row s b) _ (fold_least (row s b))

theorem wrap (j : Fin 512) :
    Scalar.select (IntOp.cmpi .slt (BitVec.ofNat 32 j.val) 0#32) (IntOp.addi (BitVec.ofNat 32 j.val) 512#32) (BitVec.ofNat 32 j.val)
      = BitVec.ofNat 32 j.val := by
  have h : ¬ (BitVec.ofNat 32 j.val).slt 0#32 = true := fun h => by
    have := BitVec.slt_iff_toInt_lt.mp h
    rw [toInt_ofNat_lt (by omega)] at this
    simp at this
    omega
  have e : IntOp.cmpi .slt (BitVec.ofNat 32 j.val) 0#32 = 0#1 := by
    unfold IntOp.cmpi; simp [h]
  rw [e]; rfl

theorem b22_at (b : Fin 4) : b22 k s (ix3 b 0 0) = BitVec.ofNat 32 (first (row s b)).val := by
  pointwise [b22, b21, b20, b19, b18, b17, b16, b15, b14]
  rw [b13_at]
  exact wrap _

theorem b32_at (b : Fin 4) : b32 k s (ix3 b 0 0) = BitVec.ofNat 32 (first (row s b)).val := by
  pointwise [b32, b31, b30, b29, b28, b27, b26, b25]
  rw [b13_at]
  exact wrap _

theorem clamp (j : Fin 512) : min (BitVec.ofNat 32 j.val).toInt.toNat 511 = j.val := by
  rw [toInt_ofNat_lt (by omega)]; omega

theorem gather_one (x : Vec Ideal S4x512 .f32) (idx : IVec S4x1x1 32) (b : Fin 4) (j : Fin 512)
    (h : idx (ix3 b 0 0) = BitVec.ofNat 32 j.val) :
    Host.gather gather_S4x512_S4x1x1_S4x1_n_1_0_0_1_2_11 x idx (ix2 b 0) = x (ix2 b j) := by
  unfold Host.gather
  refine congrArg x (funext fun a => Fin.ext ?_)
  set d := gather_S4x512_S4x1x1_S4x1_n_1_0_0_1_2_11 with hd
  show d.start (ix2 b 0) idx a + d.batchCoord (ix2 b 0) a + d.offCoord (ix2 b 0) a = _
  match a with
  | ⟨0, _⟩ =>
    show d.start (ix2 b 0) idx 0 + d.batchCoord (ix2 b 0) 0 + d.offCoord (ix2 b 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start (ix2 b 0) idx 1 + d.batchCoord (ix2 b 0) 1 + d.offCoord (ix2 b 0) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 b 0) ⟨List.idxOf (1 : Fin 2) d.startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, h]
    exact clamp j

theorem gather_row (x : Vec Ideal S4x512x512 .f32) (idx : IVec S4x1x1 32) (b : Fin 4) (j i : Fin 512)
    (h : idx (ix3 b 0 0) = BitVec.ofNat 32 j.val) :
    Host.gather gather_S4x512x512_S4x1x1_S4x1x512_2_1_0_0_1_2_11512 x idx (ix3 b 0 i) = x (ix3 b j i) := by
  unfold Host.gather
  refine congrArg x (funext fun a => Fin.ext ?_)
  set d := gather_S4x512x512_S4x1x1_S4x1x512_2_1_0_0_1_2_11512 with hd
  show d.start (ix3 b 0 i) idx a + d.batchCoord (ix3 b 0 i) a + d.offCoord (ix3 b 0 i) a = _
  match a with
  | ⟨0, _⟩ =>
    show d.start (ix3 b 0 i) idx 0 + d.batchCoord (ix3 b 0 i) 0 + d.offCoord (ix3 b 0 i) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  | ⟨1, _⟩ =>
    show d.start (ix3 b 0 i) idx 1 + d.batchCoord (ix3 b 0 i) 1 + d.offCoord (ix3 b 0 i) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b 0 i) ⟨List.idxOf (1 : Fin 3) d.startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, h]
    exact clamp j
  | ⟨2, _⟩ =>
    show d.start (ix3 b 0 i) idx 2 + d.batchCoord (ix3 b 0 i) 2 + d.offCoord (ix3 b 0 i) 2 = _
    rw [GatherDims.batchCoord_eq_zero _ _ _ (fun h => absurd (List.mem_singleton.mp h) (by decide))]
    have h0 : d.start (ix3 b 0 i) idx 2 = 0 := by
      unfold GatherDims.start
      rw [dif_neg (show ¬ (2 : Fin 3) ∈ d.startIndexMap from fun h => absurd (List.mem_singleton.mp h) (by decide))]
    rw [h0]
    simp only [Nat.zero_add, Nat.add_zero]
    unfold GatherDims.offCoord
    rw [dif_pos ((GatherDims.mem_sKept _ _).mpr ⟨fun h => absurd (List.mem_singleton.mp h) (by decide), fun h => absurd (List.mem_singleton.mp h) (by decide)⟩)]
    rfl

theorem b24_at (b : Fin 4) : b24 k s (ix1 b) = least (row s b) := by
  pointwise [b24, b23]
  rw [gather_one _ _ b _ (b22_at k s b)]
  exact at_first (row s b)

theorem b44_at {D : Fin 512 → Row} (b : Fin 4) (hD : ∀ i j, s.main_v40_1 (ix3 b i j) = D i j) (i : Fin 512) :
    b44 k s (ix2 b i) = take big D (row s b) i := by
  pointwise [b44, b43, b42, b41, b40, b39, b38, b37, b36, b35, b34, b33, K_main_v32]
  rw [gather_row _ _ b _ i (b32_at k s b), b13_at, select_ofNat_eq, hD]
  rfl

theorem b51_at (hk : k < 511) (t : Fin 511) (b : Fin 4) :
    b51 k s (ix2 b t) = if t.val = k then least (row s b) else s.main_v40_6 (ix2 b t) := by
  pointwise [b51, b50, b49, b48, b47, b46, b45, K_main_v38]
  rw [b24_at]
  refine (select_ofNat_eq ⟨t.val, by omega⟩ ⟨k, by omega⟩ _ _).trans ?_
  simp only [Fin.mk.injEq]

/-! ## The loop -/

/-- After `k` trips: the distances are unchanged, the row is the loop's row, and the list's first `k` places are filled. -/
theorem after_trips (X : Vec Ideal S4x512x128 .f32) (b : Fin 4) (it : ℕ → State Ideal) (h0 : it 0 = init X)
    (hs : ∀ k, k < 511 → it (k + 1) = step k (it k)) : ∀ k, k ≤ 511 →
      (∀ i j, (it k).main_v40_1 (ix3 b i j) = dist (unit (pts X b)) i j)
      ∧ row (it k) b = rows big (dist (unit (pts X b))) k
      ∧ ∀ t : Fin 511, t.val < k → (it k).main_v40_6 (ix2 b t) = least (rows big (dist (unit (pts X b))) t.val)
  | 0 => by
    intro _
    rw [h0]
    refine ⟨fun i j => v31_at X b i j, funext fun i => v37_at X b i, fun t ht => absurd ht (Nat.not_lt_zero _)⟩
  | k + 1 => by
    intro hk
    obtain ⟨hD, hr, hw⟩ := after_trips X b it h0 hs k (by omega)
    rw [hs k (by omega)]
    refine ⟨hD, funext fun i => (b44_at k (it k) b hD i).trans (by rw [hr]; rfl), fun t ht => ?_⟩
    refine (b51_at k (it k) (by omega) t b).trans ?_
    by_cases h : t.val = k
    · rw [if_pos h, hr, h]
    · rw [if_neg h]; exact hw t (by omega)

end Cert.Proof.Ref

end
-- ==== Proof.RefLoss.lean ====
/-
  What the reference makes after its loop, read at an index: the sorted rows, the two diagrams of each cloud, and the
  loss over them.
-/
module

public import proofs.«01_k».proof.Proof.RefLoop
public import proofs.«01_k».proof.Proof.Sorting
public import proofs.«01_k».proof.Proof.Loss

@[expose] public section

noncomputable section

namespace Cert.Proof.Ref

open Cert.ReferenceIdeal Cert.ReferenceIdeal.Gen Cert.ReferenceIdeal.Step
open Idealize.ShloMosaic Cert.Proof.Cloud

/-- The rows of a batch of distances, each sorted. -/
def sortRows (D : FVec Ideal S4x512x512 .f32) : FVec Ideal S4x512x512 .f32 := Host.sort S4x512x512 2 (comparator_f32_d2 (F := Ideal)) D

/-- The list the loop fills, sorted for each cloud. -/
def sortList (w : FVec Ideal S4x511 .f32) : FVec Ideal S4x511 .f32 :=
  Host.sort S4x511 1 (comparator_f32_d1 (F := Ideal)) w

/-- Two padded lists for each cloud, one above the other. -/
def stack (a b : FVec Ideal S4x512 .f32) : FVec Ideal S4x2x512 .f32 :=
  select (broadcastInDim S4x2x512 ![1, 2] bcast_S2x1_S4x2x512_1_2 (cmpi .eq (broadcastInDim S2x1 ![0] bcast_S2_S2x1_0 (iotaInDim S2 32 0)) (broadcastInDim S2x1 ![] bcast_S_S2x1 (constantI S_ 32 0#32))))
    (broadcastInDim S4x2x512 ![0, 1, 2] bcast_S4x1x512_S4x2x512_0_1_2 (broadcastInDim S4x1x512 ![0, 2] bcast_S4x512_S4x1x512_0_2 a))
    (broadcastInDim S4x2x512 ![0, 1, 2] bcast_S4x1x512_S4x2x512_0_1_2 (broadcastInDim S4x1x512 ![0, 2] bcast_S4x512_S4x1x512_0_2 b))

/-- A list of 511 with one more entry `z`. -/
def padTop (x : FVec Ideal S4x511 .f32) (z : FVec Ideal S_ .f32) : FVec Ideal S4x512 .f32 :=
  pad S4x512 ![0, 0] ![0, 1] ![0, 0] x (id z) pads_S4x511_S4x512_000_010 h_S_

/-- A list of 256 with 256 more entries `z`. -/
def padHalf (x : FVec Ideal S4x256 .f32) (z : FVec Ideal S_ .f32) : FVec Ideal S4x512 .f32 :=
  pad S4x512 ![0, 0] ![0, 256] ![0, 0] x (id z) pads_S4x256_S4x512_000_02560 h_S_

/-- The births: zeros, and the least distance of each of the first half of the points. -/
def births (V : FVec Ideal S4x512x512 .f32) (z : FVec Ideal S_ .f32) : FVec Ideal S4x2x512 .f32 :=
  stack (padTop (broadcastInDim S4x511 ![] bcast_S_S4x511 (constant (F := Ideal) S_ .f32 0x00000000#32)) z)
    (padHalf (shapeCast _ (extractStridedSlice S4x256x1 ![0, 0, 0] V slices_S4x512x512_S4x256x1_0_0_0) shapeCasts_S4x256x1_S4x256) z)

/-- The deaths: the tree's lengths, and the second least distance of each of the first half of the points. -/
def deaths (U : FVec Ideal S4x511 .f32) (V : FVec Ideal S4x512x512 .f32) (z : FVec Ideal S_ .f32) : FVec Ideal S4x2x512 .f32 :=
  stack (padTop U z)
    (padHalf (shapeCast _ (extractStridedSlice S4x256x1 ![0, 0, 1] V slices_S4x512x512_S4x256x1_0_0_1) shapeCasts_S4x256x1_S4x256) z)

/-- A diagram with each entry kept within the largest finite magnitude. -/
def clip (x : FVec Ideal S4x2x512 .f32) : FVec Ideal S4x2x512 .f32 :=
  minimumf (maximumf x (broadcastInDim S4x2x512 ![] bcast_S_S4x2x512 (constant (F := Ideal) S_ .f32 0xFF7FFFFF#32))) (broadcastInDim S4x2x512 ![] bcast_S_S4x2x512 (constant (F := Ideal) S_ .f32 0x7F7FFFFF#32))

/-- Where the other cloud's diagram has a point. -/
def mask (y : FVec Ideal S4x2x512 .f32) : IVec S4x2x512 1 :=
  cmpf .olt (Host.absf y) (broadcastInDim S4x2x512 ![] bcast_S_S4x2x512 (constant (F := Ideal) S_ .f32 0x7F800000#32))

/-- The squared lifetimes. -/
def sqs (x x' : FVec Ideal S4x2x512 .f32) : FVec Ideal S4x2x512 .f32 := mulf (subf (clip x') (clip x)) (subf (clip x') (clip x))

/-- The loss. -/
def loss (x x' y : FVec Ideal S4x2x512 .f32) : FVec Ideal S4 .f32 :=
  addf
    (Host.reduceAdd (select (mask y) (subf (broadcastInDim S4x2x512 ![] bcast_S_S4x2x512 (constant (F := Ideal) S_ .f32 0x3F800000#32)) (sqs x x'))
      (broadcastInDim S4x2x512 ![] bcast_S_S4x2x512 (id (constant (F := Ideal) S_ .f32 0x00000000#32)))) (constant (F := Ideal) S_ .f32 0x00000000#32) reducesTo_S4x2x512_S4_d1_2 h_S_)
    (Host.reduceAdd (select (mask y) (broadcastInDim S4x2x512 ![] bcast_S_S4x2x512 (id (constant (F := Ideal) S_ .f32 0x00000000#32))) (sqs x x'))
      (constant (F := Ideal) S_ .f32 0x00000000#32) reducesTo_S4x2x512_S4_d1_2 h_S_)

theorem result_eq (s : State Ideal) (X Y : FVec Ideal S4x512x128 .f32) :
    R_main_v162 s X Y = loss (births (sortRows (A_main_v31 (F := Ideal) X)) (constant (F := Ideal) S_ .f32 0x00000000#32))
      (deaths (sortList s.main_v40_6) (sortRows (A_main_v31 (F := Ideal) X)) (constant (F := Ideal) S_ .f32 0x00000000#32))
      (births (sortRows (A_main_v31 (F := Ideal) Y)) (constant (F := Ideal) S_ .f32 0x7FC00000#32)) := rfl

theorem cmp1_at (l r : EReal) : (comparator_f32_d1 (F := Ideal) l r == 1#1) = decide (l < r) := by
  have h : comparator_f32_d1 (F := Ideal) l r = BitVec.ofBool (decide (l < r)) := by
    pointwise [comparator_f32_d1]
    have e : ∀ a : EReal, (if a = 0 then 0 else a) = a := fun a => by split <;> simp_all
    simp only [e, ne_eq, not_true_eq_false, if_false]
    rfl
  rw [h]
  cases decide (l < r) <;> rfl

theorem cmp2_at (l r : EReal) : (comparator_f32_d2 (F := Ideal) l r == 1#1) = decide (l < r) := cmp1_at l r

theorem along_three {n₀ n₁ n₂ : ℕ} (i : Fin n₀) (j : Fin n₁) (k m : Fin n₂) :
    (ix3 i j k : (⟨3, ![n₀, n₁, n₂]⟩ : Shape).Idx).along (2 : Fin 3) m = ix3 i j m := by
  funext a
  match a with
  | ⟨0, _⟩ => rfl
  | ⟨1, _⟩ => rfl
  | ⟨2, _⟩ => rfl

theorem along_two {n₀ n₁ : ℕ} (i : Fin n₀) (k m : Fin n₁) :
    (ix2 i k : (⟨2, ![n₀, n₁]⟩ : Shape).Idx).along (1 : Fin 2) m = ix2 i m := by
  funext a
  match a with
  | ⟨0, _⟩ => rfl
  | ⟨1, _⟩ => rfl

theorem sortRows_at (D : FVec Ideal S4x512x512 .f32) (b : Fin 4) (i k : Fin 512) :
    sortRows D (ix3 b i k) = D (ix3 b i (Cloud.place (fun j => D (ix3 b i j)) k)) := by
  show D ((ix3 b i k).along (2 : Fin 3) (sortedFrom (fun m m' => comparator_f32_d2 (F := Ideal) (D ((ix3 b i k).along (2 : Fin 3) m))
    (D ((ix3 b i k).along (2 : Fin 3) m')) == 1#1) k)) = _
  refine (congrArg D (along_three b i k _)).trans ?_
  refine congrArg (fun m => D (ix3 b i m)) (congrArg (fun c => sortedFrom c k) (funext fun m => funext fun m' => ?_))
  exact (cmp2_at _ _).trans (congrArg₂ (fun p q => decide (p < q)) (congrArg D (along_three b i k m)) (congrArg D (along_three b i k m')))

theorem sortList_at (w : FVec Ideal S4x511 .f32) (b : Fin 4) (k : Fin 511) :
    sortList w (ix2 b k) = w (ix2 b (Cloud.place (fun j => w (ix2 b j)) k)) := by
  show w ((ix2 b k).along (1 : Fin 2) (sortedFrom (fun m m' => comparator_f32_d1 (F := Ideal) (w ((ix2 b k).along (1 : Fin 2) m))
    (w ((ix2 b k).along (1 : Fin 2) m')) == 1#1) k)) = _
  refine (congrArg w (along_two b k _)).trans ?_
  refine congrArg (fun m => w (ix2 b m)) (congrArg (fun c => sortedFrom c k) (funext fun m => funext fun m' => ?_))
  exact (cmp1_at _ _).trans (congrArg₂ (fun p q => decide (p < q)) (congrArg w (along_two b k m)) (congrArg w (along_two b k m')))

theorem stack_zero (a a' : FVec Ideal S4x512 .f32) (b : Fin 4) (k : Fin 512) : stack a a' (ix3 b 0 k) = a (ix2 b k) := by
  pointwise [stack]

theorem stack_one (a a' : FVec Ideal S4x512 .f32) (b : Fin 4) (k : Fin 512) : stack a a' (ix3 b 1 k) = a' (ix2 b k) := by
  pointwise [stack]
  rfl

theorem padTop_at (x z) (b : Fin 4) (k : Fin 512) :
    padTop x z (ix2 b k) = if h : k.val < 511 then x (ix2 b ⟨k.val, h⟩) else z ix0 := by
  pointwise [padTop]
  split
  · rfl
  · exact congrArg z (funext fun a => a.elim0)

theorem padHalf_at (x z) (b : Fin 4) (k : Fin 512) :
    padHalf x z (ix2 b k) = if h : k.val < 256 then x (ix2 b ⟨k.val, h⟩) else z ix0 := by
  pointwise [padHalf]
  split
  · rfl
  · exact congrArg z (funext fun a => a.elim0)

theorem births_one (V z) (b : Fin 4) (k : Fin 512) :
    births V z (ix3 b 1 k) = if k.val < 256 then V (ix3 b k 0) else z ix0 := by
  unfold births
  rw [stack_one, padHalf_at]
  pointwise []
  split <;> rfl

theorem births_zero (V z) (b : Fin 4) (k : Fin 512) :
    births V z (ix3 b 0 k) = if k.val < 511 then 0 else z ix0 := by
  unfold births
  rw [stack_zero, padTop_at]
  pointwise []
  split <;> rfl

theorem deaths_one (U V z) (b : Fin 4) (k : Fin 512) :
    deaths U V z (ix3 b 1 k) = if k.val < 256 then V (ix3 b k 1) else z ix0 := by
  unfold deaths
  rw [stack_one, padHalf_at]
  pointwise []
  split <;> rfl

theorem deaths_zero (U V z) (b : Fin 4) (k : Fin 512) :
    deaths U V z (ix3 b 0 k) = if h : k.val < 511 then U (ix2 b ⟨k.val, h⟩) else z ix0 := by
  unfold deaths
  rw [stack_zero, padTop_at]

theorem loss_at (x x' y) (b : Fin 4) :
    loss x x' y (ix1 b) = (∑ k, cell (x (ix3 b 0 k)) (x' (ix3 b 0 k)) (y (ix3 b 0 k))) + ∑ k, cell (x (ix3 b 1 k)) (x' (ix3 b 1 k)) (y (ix3 b 1 k)) := by
  have e : loss x x' y (ix1 b) = ∑ d : Fin 2, ∑ k : Fin 512, cell (x (ix3 b d k)) (x' (ix3 b d k)) (y (ix3 b d k)) := by
    pointwise [loss, sqs, mask, clip]
    rw [← Finset.sum_add_distrib]
    refine Finset.sum_congr rfl fun d _ => ?_
    rw [← Finset.sum_add_distrib]
    refine Finset.sum_congr rfl fun k _ => ?_
    have z : (id (constant (F := Ideal) S_ .f32 0x00000000#32) ix0 : EReal) = 0 := Ideal.ofBits_zero_f32
    unfold cell
    split
    · rename_i h
      refine Eq.trans ?_ (if_pos h).symm
      rw [z, add_zero]; rfl
    · rename_i h
      refine Eq.trans ?_ (if_neg h).symm
      rw [z, zero_add]; rfl
  rw [e, Fin.sum_univ_two]

/-- The reference's result for cloud `b`, at the last of a sequence of states the loop goes through. -/
theorem result_at (X Y : FVec Ideal S4x512x128 .f32) (b : Fin 4) (it : ℕ → State Ideal) (h0 : it 0 = init X)
    (hs : ∀ k, k < 511 → it (k + 1) = step k (it k)) :
    R_main_v162 (it 511) X Y (ix1 b) = score big (dist (unit (pts X b))) := by
  obtain ⟨-, -, hw⟩ := after_trips X b it h0 hs 511 (le_refl _)
  have hD := length_dist (pts X b)
  have z : (constant (F := Ideal) S_ .f32 0x00000000#32 ix0 : EReal) = 0 := Ideal.ofBits_zero_f32
  rw [result_eq, loss_at]
  refine cells_score (dist (unit (pts X b))) hD (fun k => least (dist (unit (pts Y b)) k)) (fun k => Length.least (length_dist (pts Y b) k))
    (fun k => sortList (it 511).main_v40_6 (ix2 b k)) (fun k => ?_) _ _ _ _ _ _ (fun k => ?_) (fun k => ?_) (fun k => ?_) (fun k => ?_) (fun k => ?_) (fun k => ?_)
  · rw [sortList_at, hw _ (Fin.isLt _)]
    have e : (fun j : Fin 511 => (it 511).main_v40_6 (ix2 b j)) = fun t => least (rows big (dist (unit (pts X b))) t.val) :=
      funext fun t => hw t t.isLt
    rw [e]
  · rw [births_zero, z]; simp
  · rw [deaths_zero, z]
  · rw [births_zero]; rfl
  · rw [births_one, z, sortRows_at]
    simp only [v31_at]
    rw [show dist (unit (pts X b)) k (Cloud.place (fun j => dist (unit (pts X b)) k j) 0) = least (dist (unit (pts X b)) k) from sorted_zero _]
  · rw [deaths_one, z, sortRows_at]
    simp only [v31_at]
    rw [show dist (unit (pts X b)) k (Cloud.place (fun j => dist (unit (pts X b)) k j) 1) = least (others (dist (unit (pts X b)) k)) from
      sorted_one _ fun i => (hD k i).le_big]
  · rw [births_one, sortRows_at]
    simp only [v31_at]
    rw [show dist (unit (pts Y b)) k (Cloud.place (fun j => dist (unit (pts Y b)) k j) 0) = least (dist (unit (pts Y b)) k) from sorted_zero _]
    rfl

end Cert.Proof.Ref

end
-- ==== Proof.Result.lean ====
/-
  The two programs' results: each cloud's score, the kernel's with the largest float over a taken point, the
  reference's with `big` there, and the two are one number.
-/
module

public import proofs.«01_k».proof.Proof.KernelIdealFrame
public import proofs.«01_k».proof.Proof.LeavesRead
public import proofs.«01_k».proof.Proof.RefLoss
public import proofs.«01_k».proof.Proof.Gen.ReferenceIdeal.StepRun

@[expose] public section

noncomputable section

namespace Cert.Proof

open Idealize.ShloMosaic Cert.Proof.Cloud

/-- The score does not depend on which of the two values stands over a taken point. -/
theorem score_most (x : Pts) : score most (dist (unit x)) = score big (dist (unit x)) := by
  unfold score
  have h : ∀ k : Fin 511, least (rows most (dist (unit x)) k.val) = least (rows big (dist (unit x)) k.val) := fun k =>
    (rows_agree (D := dist (unit x)) (fun _ _ hij => dist_off x hij) (dist_self _ 0) k.val).spec.1
  simp only [h]

/-- The states the reference's loop goes through from its first. -/
def states (s0 : Cert.ReferenceIdeal.Step.State Ideal) : ℕ → Cert.ReferenceIdeal.Step.State Ideal
  | 0 => s0
  | k + 1 => Cert.ReferenceIdeal.Step.step k (states s0 k)

/-- Both results are the clouds' scores. -/
theorem result_eq (c : Dev Cert.KernelIdeal.nD) (X Y : FVec Ideal Cert.KernelIdeal.S4x512x128 .f32) :
    (Cert.ReferenceIdeal.Step.R_main_v162 (states (Cert.ReferenceIdeal.Step.init X) 511) X Y : FVec Ideal Cert.KernelIdeal.S4 .f32)
      = KernelIdeal.leaves c Cert.KernelIdeal.Gen.t0_0 X := by
  funext i
  obtain ⟨b, rfl⟩ : ∃ b : Fin 4, i = ix1 b := ⟨i 0, funext fun a => by fin_cases a; rfl⟩
  refine (Ref.result_at X Y b (states (Cert.ReferenceIdeal.Step.init X)) rfl fun _ _ => rfl).trans ?_
  exact (score_most _).symm.trans (KernelIdeal.run_at c _ _ _ _ _ _ X b).symm

/-- The same from equal inputs. -/
theorem result_of (c : Dev Cert.KernelIdeal.nD) (X X' Y : FVec Ideal Cert.KernelIdeal.S4x512x128 .f32) (h : X' = X)
    (s0 : Cert.ReferenceIdeal.Step.State Ideal) (h0 : s0 = Cert.ReferenceIdeal.Step.init X') :
    (Cert.ReferenceIdeal.Step.R_main_v162 (states s0 511) X' Y : FVec Ideal Cert.KernelIdeal.S4 .f32)
      = KernelIdeal.leaves c Cert.KernelIdeal.Gen.t0_0 X := by
  subst h h0; exact result_eq c X' Y

end Cert.Proof

end
-- ==== Proof.lean ====
/-
  The claims, assembled: the two kernels' frames and the reference's, and the equality of the two results at the
  extended reals.
-/
module

public import proofs.«01_k».proof.Defs
public import proofs.«01_k».proof.Proof.KernelFrame
public import proofs.«01_k».proof.Proof.KernelIdealFrame
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.StepRun

@[expose] public section

noncomputable section

namespace Cert.Proof

open Idealize.ShloMosaic

theorem frame_kernel : Cert.quiescent_Kernel := fun m g _ => Kernel.frame_main m g

theorem frame_ideal : Cert.quiescent_KernelIdeal := fun m g _ => KernelIdeal.frame_main m g

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run m g)

theorem same_result : Cert.algebraic_KernelIdeal_ReferenceIdeal := fun m g m' g' _ hargs =>
  ⟨fun c => KernelIdeal.leaves c Cert.KernelIdeal.Gen.t0_0 (m ((c.tc : Thread Cert.KernelIdeal.nD Cert.KernelIdeal.τ).loc Cert.KernelIdeal.main_arg0)),
    KernelIdeal.value_main m g,
    (θ_run Cert.ReferenceIdeal.defs _ _).mono
      (fun r h c => ⟨(h c).1.trans (result_of c
        (m ((c.tc : Thread Cert.KernelIdeal.nD Cert.KernelIdeal.τ).loc Cert.KernelIdeal.main_arg0))
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (hargs c).1
        (Cert.ReferenceIdeal.StepRun.initState m' c) rfl), (h c).2⟩)
      (Cert.ReferenceIdeal.StepRun.run_iter m' g' (fun c => states (Cert.ReferenceIdeal.StepRun.initState m' c)) (fun _ => rfl) (fun _ _ => rfl))⟩

theorem claim : Cert.Claim :=
  ⟨Cert.Kernel.Gen.facts, Cert.KernelIdeal.Gen.facts, Cert.ReferenceIdeal.Gen.facts,
    frame_kernel, frame_ideal, frame_reference, trivial, same_result⟩

end Cert.Proof

end
